-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x2048 : Shape := ⟨2, ![256, 2048]⟩
abbrev S2048 : Shape := ⟨1, ![2048]⟩
abbrev S2x2048 : Shape := ⟨2, ![2, 2048]⟩
abbrev S16x2x2048 : Shape := ⟨3, ![16, 2, 2048]⟩
abbrev S16 : Shape := ⟨1, ![16]⟩
abbrev S_ : Shape := ⟨0, ![]⟩
abbrev S1 : Shape := ⟨1, ![1]⟩
abbrev S256 : Shape := ⟨1, ![256]⟩
abbrev S256x1 : Shape := ⟨2, ![256, 1]⟩
abbrev S1x2048 : Shape := ⟨2, ![1, 2048]⟩
abbrev S1x2x2048 : Shape := ⟨3, ![1, 2, 2048]⟩

abbrev nBuf : Space → Nat
  | .hbm => 4
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S2048, .f32⟩
  | .hbm, ⟨3, _⟩ => ⟨S2x2048, .f32⟩
  | .local _ .vmem, ⟨0, _⟩ => ⟨S256x2048, .f32⟩
  | .local _ .vmem, ⟨1, _⟩ => ⟨S256x2048, .f32⟩
  | .local _ .vmem, ⟨2, _⟩ => ⟨S2x2048, .f32⟩
  | .local _ .vmem, ⟨3, _⟩ => ⟨S16x2x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 17 35 bufScoped semScoped dmaSemScoped tileCredit tileCredit_eq_zero tileCredit_pos).withBarriers [(0, 16)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 16

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_4 v2
  let c8_i32_6 : BitVec 32 := 8#32
  let v15 : BitVec 32 := Scalar.muli v14 c8_i32_6
  let v16 : BitVec 32 := Scalar.addi c0_i32 v15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_7 : BitVec 32 := 4#32
  let v17 : BitVec 32 := Scalar.muli v5 c4_i32_7
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v19 : BitVec 32 := Scalar.muli v8 c1_i32_8
  let v20 : BitVec 32 := Scalar.addi v18 v19
  v20.toNat
def k0_cond1 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_10 : BitVec 32 := 0#32
  let v21 : BitVec 1 := Scalar.cmpi .ne v12 c0_i32_10
  let v22 : BitVec 32 := Scalar.extui v21
  let c0_i32_11 : BitVec 32 := 0#32
  let v23 : BitVec 1 := Scalar.cmpi .ne v22 c0_i32_11
  v23

def k0_off1 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_dev2 : Nat :=
  let c0_i32_149 : BitVec 32 := 0#32
  let c0_i32_145 : BitVec 32 := 0#32
  let c8_i32_148 : BitVec 32 := 8#32
  let v253 : BitVec 32 := Scalar.muli c0_i32_145 c8_i32_148
  let v254 : BitVec 32 := Scalar.addi c0_i32_149 v253
  let c0_i32_146 : BitVec 32 := 0#32
  let c4_i32_150 : BitVec 32 := 4#32
  let v255 : BitVec 32 := Scalar.muli c0_i32_146 c4_i32_150
  let v256 : BitVec 32 := Scalar.addi v254 v255
  let c0_i32_147 : BitVec 32 := 0#32
  let c1_i32_151 : BitVec 32 := 1#32
  let v257 : BitVec 32 := Scalar.muli c0_i32_147 c1_i32_151
  let v258 : BitVec 32 := Scalar.addi v256 v257
  v258.toNat
def k0_cond2 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c1_i32_12 : BitVec 32 := 1#32
  let v24 : BitVec 1 := Scalar.cmpi .ne v12 c1_i32_12
  let v25 : BitVec 32 := Scalar.extui v24
  let c0_i32_13 : BitVec 32 := 0#32
  let v26 : BitVec 1 := Scalar.cmpi .ne v25 c0_i32_13
  v26

def k0_off2 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_dev3 : Nat :=
  let c0_i32_149 : BitVec 32 := 0#32
  let c0_i32_145 : BitVec 32 := 0#32
  let c8_i32_148 : BitVec 32 := 8#32
  let v253 : BitVec 32 := Scalar.muli c0_i32_145 c8_i32_148
  let v254 : BitVec 32 := Scalar.addi c0_i32_149 v253
  let c0_i32_146 : BitVec 32 := 0#32
  let c4_i32_150 : BitVec 32 := 4#32
  let v255 : BitVec 32 := Scalar.muli c0_i32_146 c4_i32_150
  let v256 : BitVec 32 := Scalar.addi v254 v255
  let c1_i32_147 : BitVec 32 := 1#32
  let c1_i32_151 : BitVec 32 := 1#32
  let v257 : BitVec 32 := Scalar.muli c1_i32_147 c1_i32_151
  let v258 : BitVec 32 := Scalar.addi v256 v257
  v258.toNat
def k0_cond3 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c2_i32_14 : BitVec 32 := 2#32
  let v27 : BitVec 1 := Scalar.cmpi .ne v12 c2_i32_14
  let v28 : BitVec 32 := Scalar.extui v27
  let c0_i32_15 : BitVec 32 := 0#32
  let v29 : BitVec 1 := Scalar.cmpi .ne v28 c0_i32_15
  v29

def k0_off3 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_dev4 : Nat :=
  let c0_i32_149 : BitVec 32 := 0#32
  let c0_i32_145 : BitVec 32 := 0#32
  let c8_i32_148 : BitVec 32 := 8#32
  let v253 : BitVec 32 := Scalar.muli c0_i32_145 c8_i32_148
  let v254 : BitVec 32 := Scalar.addi c0_i32_149 v253
  let c0_i32_146 : BitVec 32 := 0#32
  let c4_i32_150 : BitVec 32 := 4#32
  let v255 : BitVec 32 := Scalar.muli c0_i32_146 c4_i32_150
  let v256 : BitVec 32 := Scalar.addi v254 v255
  let c2_i32_147 : BitVec 32 := 2#32
  let c1_i32_151 : BitVec 32 := 1#32
  let v257 : BitVec 32 := Scalar.muli c2_i32_147 c1_i32_151
  let v258 : BitVec 32 := Scalar.addi v256 v257
  v258.toNat
def k0_cond4 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c3_i32 : BitVec 32 := 3#32
  let v30 : BitVec 1 := Scalar.cmpi .ne v12 c3_i32
  let v31 : BitVec 32 := Scalar.extui v30
  let c0_i32_16 : BitVec 32 := 0#32
  let v32 : BitVec 1 := Scalar.cmpi .ne v31 c0_i32_16
  v32

def k0_off4 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_dev5 : Nat :=
  let c0_i32_149 : BitVec 32 := 0#32
  let c0_i32_145 : BitVec 32 := 0#32
  let c8_i32_148 : BitVec 32 := 8#32
  let v253 : BitVec 32 := Scalar.muli c0_i32_145 c8_i32_148
  let v254 : BitVec 32 := Scalar.addi c0_i32_149 v253
  let c0_i32_146 : BitVec 32 := 0#32
  let c4_i32_150 : BitVec 32 := 4#32
  let v255 : BitVec 32 := Scalar.muli c0_i32_146 c4_i32_150
  let v256 : BitVec 32 := Scalar.addi v254 v255
  let c3_i32_147 : BitVec 32 := 3#32
  let c1_i32_151 : BitVec 32 := 1#32
  let v257 : BitVec 32 := Scalar.muli c3_i32_147 c1_i32_151
  let v258 : BitVec 32 := Scalar.addi v256 v257
  v258.toNat
def k0_cond5 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c4_i32_17 : BitVec 32 := 4#32
  let v33 : BitVec 1 := Scalar.cmpi .ne v12 c4_i32_17
  let v34 : BitVec 32 := Scalar.extui v33
  let c0_i32_18 : BitVec 32 := 0#32
  let v35 : BitVec 1 := Scalar.cmpi .ne v34 c0_i32_18
  v35

def k0_off5 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_dev6 : Nat :=
  let c0_i32_149 : BitVec 32 := 0#32
  let c0_i32_145 : BitVec 32 := 0#32
  let c8_i32_148 : BitVec 32 := 8#32
  let v253 : BitVec 32 := Scalar.muli c0_i32_145 c8_i32_148
  let v254 : BitVec 32 := Scalar.addi c0_i32_149 v253
  let c1_i32_146 : BitVec 32 := 1#32
  let c4_i32_150 : BitVec 32 := 4#32
  let v255 : BitVec 32 := Scalar.muli c1_i32_146 c4_i32_150
  let v256 : BitVec 32 := Scalar.addi v254 v255
  let c0_i32_147 : BitVec 32 := 0#32
  let c1_i32_151 : BitVec 32 := 1#32
  let v257 : BitVec 32 := Scalar.muli c0_i32_147 c1_i32_151
  let v258 : BitVec 32 := Scalar.addi v256 v257
  v258.toNat
def k0_cond6 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c5_i32 : BitVec 32 := 5#32
  let v36 : BitVec 1 := Scalar.cmpi .ne v12 c5_i32
  let v37 : BitVec 32 := Scalar.extui v36
  let c0_i32_19 : BitVec 32 := 0#32
  let v38 : BitVec 1 := Scalar.cmpi .ne v37 c0_i32_19
  v38

def k0_off6 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_dev7 : Nat :=
  let c0_i32_149 : BitVec 32 := 0#32
  let c0_i32_145 : BitVec 32 := 0#32
  let c8_i32_148 : BitVec 32 := 8#32
  let v253 : BitVec 32 := Scalar.muli c0_i32_145 c8_i32_148
  let v254 : BitVec 32 := Scalar.addi c0_i32_149 v253
  let c1_i32_146 : BitVec 32 := 1#32
  let c4_i32_150 : BitVec 32 := 4#32
  let v255 : BitVec 32 := Scalar.muli c1_i32_146 c4_i32_150
  let v256 : BitVec 32 := Scalar.addi v254 v255
  let c1_i32_147 : BitVec 32 := 1#32
  let c1_i32_151 : BitVec 32 := 1#32
  let v257 : BitVec 32 := Scalar.muli c1_i32_147 c1_i32_151
  let v258 : BitVec 32 := Scalar.addi v256 v257
  v258.toNat
def k0_cond7 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c6_i32 : BitVec 32 := 6#32
  let v39 : BitVec 1 := Scalar.cmpi .ne v12 c6_i32
  let v40 : BitVec 32 := Scalar.extui v39
  let c0_i32_20 : BitVec 32 := 0#32
  let v41 : BitVec 1 := Scalar.cmpi .ne v40 c0_i32_20
  v41

def k0_off7 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_dev8 : Nat :=
  let c0_i32_149 : BitVec 32 := 0#32
  let c0_i32_145 : BitVec 32 := 0#32
  let c8_i32_148 : BitVec 32 := 8#32
  let v253 : BitVec 32 := Scalar.muli c0_i32_145 c8_i32_148
  let v254 : BitVec 32 := Scalar.addi c0_i32_149 v253
  let c1_i32_146 : BitVec 32 := 1#32
  let c4_i32_150 : BitVec 32 := 4#32
  let v255 : BitVec 32 := Scalar.muli c1_i32_146 c4_i32_150
  let v256 : BitVec 32 := Scalar.addi v254 v255
  let c2_i32_147 : BitVec 32 := 2#32
  let c1_i32_151 : BitVec 32 := 1#32
  let v257 : BitVec 32 := Scalar.muli c2_i32_147 c1_i32_151
  let v258 : BitVec 32 := Scalar.addi v256 v257
  v258.toNat
def k0_cond8 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c7_i32 : BitVec 32 := 7#32
  let v42 : BitVec 1 := Scalar.cmpi .ne v12 c7_i32
  let v43 : BitVec 32 := Scalar.extui v42
  let c0_i32_21 : BitVec 32 := 0#32
  let v44 : BitVec 1 := Scalar.cmpi .ne v43 c0_i32_21
  v44

def k0_off8 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_dev9 : Nat :=
  let c0_i32_149 : BitVec 32 := 0#32
  let c0_i32_145 : BitVec 32 := 0#32
  let c8_i32_148 : BitVec 32 := 8#32
  let v253 : BitVec 32 := Scalar.muli c0_i32_145 c8_i32_148
  let v254 : BitVec 32 := Scalar.addi c0_i32_149 v253
  let c1_i32_146 : BitVec 32 := 1#32
  let c4_i32_150 : BitVec 32 := 4#32
  let v255 : BitVec 32 := Scalar.muli c1_i32_146 c4_i32_150
  let v256 : BitVec 32 := Scalar.addi v254 v255
  let c3_i32_147 : BitVec 32 := 3#32
  let c1_i32_151 : BitVec 32 := 1#32
  let v257 : BitVec 32 := Scalar.muli c3_i32_147 c1_i32_151
  let v258 : BitVec 32 := Scalar.addi v256 v257
  v258.toNat
def k0_cond9 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c8_i32_22 : BitVec 32 := 8#32
  let v45 : BitVec 1 := Scalar.cmpi .ne v12 c8_i32_22
  let v46 : BitVec 32 := Scalar.extui v45
  let c0_i32_23 : BitVec 32 := 0#32
  let v47 : BitVec 1 := Scalar.cmpi .ne v46 c0_i32_23
  v47

def k0_off9 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_dev10 : Nat :=
  let c0_i32_149 : BitVec 32 := 0#32
  let c1_i32_145 : BitVec 32 := 1#32
  let c8_i32_148 : BitVec 32 := 8#32
  let v253 : BitVec 32 := Scalar.muli c1_i32_145 c8_i32_148
  let v254 : BitVec 32 := Scalar.addi c0_i32_149 v253
  let c0_i32_146 : BitVec 32 := 0#32
  let c4_i32_150 : BitVec 32 := 4#32
  let v255 : BitVec 32 := Scalar.muli c0_i32_146 c4_i32_150
  let v256 : BitVec 32 := Scalar.addi v254 v255
  let c0_i32_147 : BitVec 32 := 0#32
  let c1_i32_151 : BitVec 32 := 1#32
  let v257 : BitVec 32 := Scalar.muli c0_i32_147 c1_i32_151
  let v258 : BitVec 32 := Scalar.addi v256 v257
  v258.toNat
def k0_cond10 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c9_i32 : BitVec 32 := 9#32
  let v48 : BitVec 1 := Scalar.cmpi .ne v12 c9_i32
  let v49 : BitVec 32 := Scalar.extui v48
  let c0_i32_24 : BitVec 32 := 0#32
  let v50 : BitVec 1 := Scalar.cmpi .ne v49 c0_i32_24
  v50

def k0_off10 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_dev11 : Nat :=
  let c0_i32_149 : BitVec 32 := 0#32
  let c1_i32_145 : BitVec 32 := 1#32
  let c8_i32_148 : BitVec 32 := 8#32
  let v253 : BitVec 32 := Scalar.muli c1_i32_145 c8_i32_148
  let v254 : BitVec 32 := Scalar.addi c0_i32_149 v253
  let c0_i32_146 : BitVec 32 := 0#32
  let c4_i32_150 : BitVec 32 := 4#32
  let v255 : BitVec 32 := Scalar.muli c0_i32_146 c4_i32_150
  let v256 : BitVec 32 := Scalar.addi v254 v255
  let c1_i32_147 : BitVec 32 := 1#32
  let c1_i32_151 : BitVec 32 := 1#32
  let v257 : BitVec 32 := Scalar.muli c1_i32_147 c1_i32_151
  let v258 : BitVec 32 := Scalar.addi v256 v257
  v258.toNat
def k0_cond11 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c10_i32 : BitVec 32 := 10#32
  let v51 : BitVec 1 := Scalar.cmpi .ne v12 c10_i32
  let v52 : BitVec 32 := Scalar.extui v51
  let c0_i32_25 : BitVec 32 := 0#32
  let v53 : BitVec 1 := Scalar.cmpi .ne v52 c0_i32_25
  v53

def k0_off11 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_dev12 : Nat :=
  let c0_i32_149 : BitVec 32 := 0#32
  let c1_i32_145 : BitVec 32 := 1#32
  let c8_i32_148 : BitVec 32 := 8#32
  let v253 : BitVec 32 := Scalar.muli c1_i32_145 c8_i32_148
  let v254 : BitVec 32 := Scalar.addi c0_i32_149 v253
  let c0_i32_146 : BitVec 32 := 0#32
  let c4_i32_150 : BitVec 32 := 4#32
  let v255 : BitVec 32 := Scalar.muli c0_i32_146 c4_i32_150
  let v256 : BitVec 32 := Scalar.addi v254 v255
  let c2_i32_147 : BitVec 32 := 2#32
  let c1_i32_151 : BitVec 32 := 1#32
  let v257 : BitVec 32 := Scalar.muli c2_i32_147 c1_i32_151
  let v258 : BitVec 32 := Scalar.addi v256 v257
  v258.toNat
def k0_cond12 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c11_i32 : BitVec 32 := 11#32
  let v54 : BitVec 1 := Scalar.cmpi .ne v12 c11_i32
  let v55 : BitVec 32 := Scalar.extui v54
  let c0_i32_26 : BitVec 32 := 0#32
  let v56 : BitVec 1 := Scalar.cmpi .ne v55 c0_i32_26
  v56

def k0_off12 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_dev13 : Nat :=
  let c0_i32_149 : BitVec 32 := 0#32
  let c1_i32_145 : BitVec 32 := 1#32
  let c8_i32_148 : BitVec 32 := 8#32
  let v253 : BitVec 32 := Scalar.muli c1_i32_145 c8_i32_148
  let v254 : BitVec 32 := Scalar.addi c0_i32_149 v253
  let c0_i32_146 : BitVec 32 := 0#32
  let c4_i32_150 : BitVec 32 := 4#32
  let v255 : BitVec 32 := Scalar.muli c0_i32_146 c4_i32_150
  let v256 : BitVec 32 := Scalar.addi v254 v255
  let c3_i32_147 : BitVec 32 := 3#32
  let c1_i32_151 : BitVec 32 := 1#32
  let v257 : BitVec 32 := Scalar.muli c3_i32_147 c1_i32_151
  let v258 : BitVec 32 := Scalar.addi v256 v257
  v258.toNat
def k0_cond13 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c12_i32 : BitVec 32 := 12#32
  let v57 : BitVec 1 := Scalar.cmpi .ne v12 c12_i32
  let v58 : BitVec 32 := Scalar.extui v57
  let c0_i32_27 : BitVec 32 := 0#32
  let v59 : BitVec 1 := Scalar.cmpi .ne v58 c0_i32_27
  v59

def k0_off13 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_dev14 : Nat :=
  let c0_i32_149 : BitVec 32 := 0#32
  let c1_i32_145 : BitVec 32 := 1#32
  let c8_i32_148 : BitVec 32 := 8#32
  let v253 : BitVec 32 := Scalar.muli c1_i32_145 c8_i32_148
  let v254 : BitVec 32 := Scalar.addi c0_i32_149 v253
  let c1_i32_146 : BitVec 32 := 1#32
  let c4_i32_150 : BitVec 32 := 4#32
  let v255 : BitVec 32 := Scalar.muli c1_i32_146 c4_i32_150
  let v256 : BitVec 32 := Scalar.addi v254 v255
  let c0_i32_147 : BitVec 32 := 0#32
  let c1_i32_151 : BitVec 32 := 1#32
  let v257 : BitVec 32 := Scalar.muli c0_i32_147 c1_i32_151
  let v258 : BitVec 32 := Scalar.addi v256 v257
  v258.toNat
def k0_cond14 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c13_i32 : BitVec 32 := 13#32
  let v60 : BitVec 1 := Scalar.cmpi .ne v12 c13_i32
  let v61 : BitVec 32 := Scalar.extui v60
  let c0_i32_28 : BitVec 32 := 0#32
  let v62 : BitVec 1 := Scalar.cmpi .ne v61 c0_i32_28
  v62

def k0_off14 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_dev15 : Nat :=
  let c0_i32_149 : BitVec 32 := 0#32
  let c1_i32_145 : BitVec 32 := 1#32
  let c8_i32_148 : BitVec 32 := 8#32
  let v253 : BitVec 32 := Scalar.muli c1_i32_145 c8_i32_148
  let v254 : BitVec 32 := Scalar.addi c0_i32_149 v253
  let c1_i32_146 : BitVec 32 := 1#32
  let c4_i32_150 : BitVec 32 := 4#32
  let v255 : BitVec 32 := Scalar.muli c1_i32_146 c4_i32_150
  let v256 : BitVec 32 := Scalar.addi v254 v255
  let c1_i32_147 : BitVec 32 := 1#32
  let c1_i32_151 : BitVec 32 := 1#32
  let v257 : BitVec 32 := Scalar.muli c1_i32_147 c1_i32_151
  let v258 : BitVec 32 := Scalar.addi v256 v257
  v258.toNat
def k0_cond15 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c14_i32 : BitVec 32 := 14#32
  let v63 : BitVec 1 := Scalar.cmpi .ne v12 c14_i32
  let v64 : BitVec 32 := Scalar.extui v63
  let c0_i32_29 : BitVec 32 := 0#32
  let v65 : BitVec 1 := Scalar.cmpi .ne v64 c0_i32_29
  v65

def k0_off15 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_dev16 : Nat :=
  let c0_i32_149 : BitVec 32 := 0#32
  let c1_i32_145 : BitVec 32 := 1#32
  let c8_i32_148 : BitVec 32 := 8#32
  let v253 : BitVec 32 := Scalar.muli c1_i32_145 c8_i32_148
  let v254 : BitVec 32 := Scalar.addi c0_i32_149 v253
  let c1_i32_146 : BitVec 32 := 1#32
  let c4_i32_150 : BitVec 32 := 4#32
  let v255 : BitVec 32 := Scalar.muli c1_i32_146 c4_i32_150
  let v256 : BitVec 32 := Scalar.addi v254 v255
  let c2_i32_147 : BitVec 32 := 2#32
  let c1_i32_151 : BitVec 32 := 1#32
  let v257 : BitVec 32 := Scalar.muli c2_i32_147 c1_i32_151
  let v258 : BitVec 32 := Scalar.addi v256 v257
  v258.toNat
def k0_cond16 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c15_i32 : BitVec 32 := 15#32
  let v66 : BitVec 1 := Scalar.cmpi .ne v12 c15_i32
  let v67 : BitVec 32 := Scalar.extui v66
  let c0_i32_30 : BitVec 32 := 0#32
  let v68 : BitVec 1 := Scalar.cmpi .ne v67 c0_i32_30
  v68

def k0_off16 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_dev17 : Nat :=
  let c0_i32_149 : BitVec 32 := 0#32
  let c1_i32_145 : BitVec 32 := 1#32
  let c8_i32_148 : BitVec 32 := 8#32
  let v253 : BitVec 32 := Scalar.muli c1_i32_145 c8_i32_148
  let v254 : BitVec 32 := Scalar.addi c0_i32_149 v253
  let c1_i32_146 : BitVec 32 := 1#32
  let c4_i32_150 : BitVec 32 := 4#32
  let v255 : BitVec 32 := Scalar.muli c1_i32_146 c4_i32_150
  let v256 : BitVec 32 := Scalar.addi v254 v255
  let c3_i32_147 : BitVec 32 := 3#32
  let c1_i32_151 : BitVec 32 := 1#32
  let v257 : BitVec 32 := Scalar.muli c3_i32_147 c1_i32_151
  let v258 : BitVec 32 := Scalar.addi v256 v257
  v258.toNat
def k0_off17 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let v100 : Index := Scalar.indexCast v12
  let c0_40 : Index := 0#32
  let c0_41 : Index := 0#32
  ![v100.toNat, 0, 0]
def k0_cond17 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_42 : BitVec 32 := 0#32
  let v104 : BitVec 1 := Scalar.cmpi .ne v12 c0_i32_42
  let v105 : BitVec 32 := Scalar.extui v104
  let c0_i32_43 : BitVec 32 := 0#32
  let v106 : BitVec 1 := Scalar.cmpi .ne v105 c0_i32_43
  v106

def k0_off18 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off19 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_155 : BitVec 32 := 0#32
  let c0_i32_156 : BitVec 32 := 0#32
  ![v12.toNat, 0, 0]
def k0_dev18 : Nat :=
  let c0_i32_152 : BitVec 32 := 0#32
  let c0_i32_148 : BitVec 32 := 0#32
  let c8_i32_151 : BitVec 32 := 8#32
  let v253 : BitVec 32 := Scalar.muli c0_i32_148 c8_i32_151
  let v254 : BitVec 32 := Scalar.addi c0_i32_152 v253
  let c0_i32_149 : BitVec 32 := 0#32
  let c4_i32_153 : BitVec 32 := 4#32
  let v255 : BitVec 32 := Scalar.muli c0_i32_149 c4_i32_153
  let v256 : BitVec 32 := Scalar.addi v254 v255
  let c0_i32_150 : BitVec 32 := 0#32
  let c1_i32_154 : BitVec 32 := 1#32
  let v257 : BitVec 32 := Scalar.muli c0_i32_150 c1_i32_154
  let v258 : BitVec 32 := Scalar.addi v256 v257
  v258.toNat
def k0_cond18 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c1_i32_44 : BitVec 32 := 1#32
  let v107 : BitVec 1 := Scalar.cmpi .ne v12 c1_i32_44
  let v108 : BitVec 32 := Scalar.extui v107
  let c0_i32_45 : BitVec 32 := 0#32
  let v109 : BitVec 1 := Scalar.cmpi .ne v108 c0_i32_45
  v109

def k0_off20 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off21 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_155 : BitVec 32 := 0#32
  let c0_i32_156 : BitVec 32 := 0#32
  ![v12.toNat, 0, 0]
def k0_dev19 : Nat :=
  let c0_i32_152 : BitVec 32 := 0#32
  let c0_i32_148 : BitVec 32 := 0#32
  let c8_i32_151 : BitVec 32 := 8#32
  let v253 : BitVec 32 := Scalar.muli c0_i32_148 c8_i32_151
  let v254 : BitVec 32 := Scalar.addi c0_i32_152 v253
  let c0_i32_149 : BitVec 32 := 0#32
  let c4_i32_153 : BitVec 32 := 4#32
  let v255 : BitVec 32 := Scalar.muli c0_i32_149 c4_i32_153
  let v256 : BitVec 32 := Scalar.addi v254 v255
  let c1_i32_150 : BitVec 32 := 1#32
  let c1_i32_154 : BitVec 32 := 1#32
  let v257 : BitVec 32 := Scalar.muli c1_i32_150 c1_i32_154
  let v258 : BitVec 32 := Scalar.addi v256 v257
  v258.toNat
def k0_cond19 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c2_i32_46 : BitVec 32 := 2#32
  let v110 : BitVec 1 := Scalar.cmpi .ne v12 c2_i32_46
  let v111 : BitVec 32 := Scalar.extui v110
  let c0_i32_47 : BitVec 32 := 0#32
  let v112 : BitVec 1 := Scalar.cmpi .ne v111 c0_i32_47
  v112

def k0_off22 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off23 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_155 : BitVec 32 := 0#32
  let c0_i32_156 : BitVec 32 := 0#32
  ![v12.toNat, 0, 0]
def k0_dev20 : Nat :=
  let c0_i32_152 : BitVec 32 := 0#32
  let c0_i32_148 : BitVec 32 := 0#32
  let c8_i32_151 : BitVec 32 := 8#32
  let v253 : BitVec 32 := Scalar.muli c0_i32_148 c8_i32_151
  let v254 : BitVec 32 := Scalar.addi c0_i32_152 v253
  let c0_i32_149 : BitVec 32 := 0#32
  let c4_i32_153 : BitVec 32 := 4#32
  let v255 : BitVec 32 := Scalar.muli c0_i32_149 c4_i32_153
  let v256 : BitVec 32 := Scalar.addi v254 v255
  let c2_i32_150 : BitVec 32 := 2#32
  let c1_i32_154 : BitVec 32 := 1#32
  let v257 : BitVec 32 := Scalar.muli c2_i32_150 c1_i32_154
  let v258 : BitVec 32 := Scalar.addi v256 v257
  v258.toNat
def k0_cond20 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c3_i32_48 : BitVec 32 := 3#32
  let v113 : BitVec 1 := Scalar.cmpi .ne v12 c3_i32_48
  let v114 : BitVec 32 := Scalar.extui v113
  let c0_i32_49 : BitVec 32 := 0#32
  let v115 : BitVec 1 := Scalar.cmpi .ne v114 c0_i32_49
  v115

def k0_off24 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off25 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_155 : BitVec 32 := 0#32
  let c0_i32_156 : BitVec 32 := 0#32
  ![v12.toNat, 0, 0]
def k0_dev21 : Nat :=
  let c0_i32_152 : BitVec 32 := 0#32
  let c0_i32_148 : BitVec 32 := 0#32
  let c8_i32_151 : BitVec 32 := 8#32
  let v253 : BitVec 32 := Scalar.muli c0_i32_148 c8_i32_151
  let v254 : BitVec 32 := Scalar.addi c0_i32_152 v253
  let c0_i32_149 : BitVec 32 := 0#32
  let c4_i32_153 : BitVec 32 := 4#32
  let v255 : BitVec 32 := Scalar.muli c0_i32_149 c4_i32_153
  let v256 : BitVec 32 := Scalar.addi v254 v255
  let c3_i32_150 : BitVec 32 := 3#32
  let c1_i32_154 : BitVec 32 := 1#32
  let v257 : BitVec 32 := Scalar.muli c3_i32_150 c1_i32_154
  let v258 : BitVec 32 := Scalar.addi v256 v257
  v258.toNat
def k0_cond21 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c4_i32_50 : BitVec 32 := 4#32
  let v116 : BitVec 1 := Scalar.cmpi .ne v12 c4_i32_50
  let v117 : BitVec 32 := Scalar.extui v116
  let c0_i32_51 : BitVec 32 := 0#32
  let v118 : BitVec 1 := Scalar.cmpi .ne v117 c0_i32_51
  v118

def k0_off26 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off27 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_155 : BitVec 32 := 0#32
  let c0_i32_156 : BitVec 32 := 0#32
  ![v12.toNat, 0, 0]
def k0_dev22 : Nat :=
  let c0_i32_152 : BitVec 32 := 0#32
  let c0_i32_148 : BitVec 32 := 0#32
  let c8_i32_151 : BitVec 32 := 8#32
  let v253 : BitVec 32 := Scalar.muli c0_i32_148 c8_i32_151
  let v254 : BitVec 32 := Scalar.addi c0_i32_152 v253
  let c1_i32_149 : BitVec 32 := 1#32
  let c4_i32_153 : BitVec 32 := 4#32
  let v255 : BitVec 32 := Scalar.muli c1_i32_149 c4_i32_153
  let v256 : BitVec 32 := Scalar.addi v254 v255
  let c0_i32_150 : BitVec 32 := 0#32
  let c1_i32_154 : BitVec 32 := 1#32
  let v257 : BitVec 32 := Scalar.muli c0_i32_150 c1_i32_154
  let v258 : BitVec 32 := Scalar.addi v256 v257
  v258.toNat
def k0_cond22 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c5_i32_52 : BitVec 32 := 5#32
  let v119 : BitVec 1 := Scalar.cmpi .ne v12 c5_i32_52
  let v120 : BitVec 32 := Scalar.extui v119
  let c0_i32_53 : BitVec 32 := 0#32
  let v121 : BitVec 1 := Scalar.cmpi .ne v120 c0_i32_53
  v121

def k0_off28 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off29 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_155 : BitVec 32 := 0#32
  let c0_i32_156 : BitVec 32 := 0#32
  ![v12.toNat, 0, 0]
def k0_dev23 : Nat :=
  let c0_i32_152 : BitVec 32 := 0#32
  let c0_i32_148 : BitVec 32 := 0#32
  let c8_i32_151 : BitVec 32 := 8#32
  let v253 : BitVec 32 := Scalar.muli c0_i32_148 c8_i32_151
  let v254 : BitVec 32 := Scalar.addi c0_i32_152 v253
  let c1_i32_149 : BitVec 32 := 1#32
  let c4_i32_153 : BitVec 32 := 4#32
  let v255 : BitVec 32 := Scalar.muli c1_i32_149 c4_i32_153
  let v256 : BitVec 32 := Scalar.addi v254 v255
  let c1_i32_150 : BitVec 32 := 1#32
  let c1_i32_154 : BitVec 32 := 1#32
  let v257 : BitVec 32 := Scalar.muli c1_i32_150 c1_i32_154
  let v258 : BitVec 32 := Scalar.addi v256 v257
  v258.toNat
def k0_cond23 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c6_i32_54 : BitVec 32 := 6#32
  let v122 : BitVec 1 := Scalar.cmpi .ne v12 c6_i32_54
  let v123 : BitVec 32 := Scalar.extui v122
  let c0_i32_55 : BitVec 32 := 0#32
  let v124 : BitVec 1 := Scalar.cmpi .ne v123 c0_i32_55
  v124

def k0_off30 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off31 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_155 : BitVec 32 := 0#32
  let c0_i32_156 : BitVec 32 := 0#32
  ![v12.toNat, 0, 0]
def k0_dev24 : Nat :=
  let c0_i32_152 : BitVec 32 := 0#32
  let c0_i32_148 : BitVec 32 := 0#32
  let c8_i32_151 : BitVec 32 := 8#32
  let v253 : BitVec 32 := Scalar.muli c0_i32_148 c8_i32_151
  let v254 : BitVec 32 := Scalar.addi c0_i32_152 v253
  let c1_i32_149 : BitVec 32 := 1#32
  let c4_i32_153 : BitVec 32 := 4#32
  let v255 : BitVec 32 := Scalar.muli c1_i32_149 c4_i32_153
  let v256 : BitVec 32 := Scalar.addi v254 v255
  let c2_i32_150 : BitVec 32 := 2#32
  let c1_i32_154 : BitVec 32 := 1#32
  let v257 : BitVec 32 := Scalar.muli c2_i32_150 c1_i32_154
  let v258 : BitVec 32 := Scalar.addi v256 v257
  v258.toNat
def k0_cond24 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c7_i32_56 : BitVec 32 := 7#32
  let v125 : BitVec 1 := Scalar.cmpi .ne v12 c7_i32_56
  let v126 : BitVec 32 := Scalar.extui v125
  let c0_i32_57 : BitVec 32 := 0#32
  let v127 : BitVec 1 := Scalar.cmpi .ne v126 c0_i32_57
  v127

def k0_off32 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off33 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_155 : BitVec 32 := 0#32
  let c0_i32_156 : BitVec 32 := 0#32
  ![v12.toNat, 0, 0]
def k0_dev25 : Nat :=
  let c0_i32_152 : BitVec 32 := 0#32
  let c0_i32_148 : BitVec 32 := 0#32
  let c8_i32_151 : BitVec 32 := 8#32
  let v253 : BitVec 32 := Scalar.muli c0_i32_148 c8_i32_151
  let v254 : BitVec 32 := Scalar.addi c0_i32_152 v253
  let c1_i32_149 : BitVec 32 := 1#32
  let c4_i32_153 : BitVec 32 := 4#32
  let v255 : BitVec 32 := Scalar.muli c1_i32_149 c4_i32_153
  let v256 : BitVec 32 := Scalar.addi v254 v255
  let c3_i32_150 : BitVec 32 := 3#32
  let c1_i32_154 : BitVec 32 := 1#32
  let v257 : BitVec 32 := Scalar.muli c3_i32_150 c1_i32_154
  let v258 : BitVec 32 := Scalar.addi v256 v257
  v258.toNat
def k0_cond25 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c8_i32_58 : BitVec 32 := 8#32
  let v128 : BitVec 1 := Scalar.cmpi .ne v12 c8_i32_58
  let v129 : BitVec 32 := Scalar.extui v128
  let c0_i32_59 : BitVec 32 := 0#32
  let v130 : BitVec 1 := Scalar.cmpi .ne v129 c0_i32_59
  v130

def k0_off34 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off35 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_155 : BitVec 32 := 0#32
  let c0_i32_156 : BitVec 32 := 0#32
  ![v12.toNat, 0, 0]
def k0_dev26 : Nat :=
  let c0_i32_152 : BitVec 32 := 0#32
  let c1_i32_148 : BitVec 32 := 1#32
  let c8_i32_151 : BitVec 32 := 8#32
  let v253 : BitVec 32 := Scalar.muli c1_i32_148 c8_i32_151
  let v254 : BitVec 32 := Scalar.addi c0_i32_152 v253
  let c0_i32_149 : BitVec 32 := 0#32
  let c4_i32_153 : BitVec 32 := 4#32
  let v255 : BitVec 32 := Scalar.muli c0_i32_149 c4_i32_153
  let v256 : BitVec 32 := Scalar.addi v254 v255
  let c0_i32_150 : BitVec 32 := 0#32
  let c1_i32_154 : BitVec 32 := 1#32
  let v257 : BitVec 32 := Scalar.muli c0_i32_150 c1_i32_154
  let v258 : BitVec 32 := Scalar.addi v256 v257
  v258.toNat
def k0_cond26 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c9_i32_60 : BitVec 32 := 9#32
  let v131 : BitVec 1 := Scalar.cmpi .ne v12 c9_i32_60
  let v132 : BitVec 32 := Scalar.extui v131
  let c0_i32_61 : BitVec 32 := 0#32
  let v133 : BitVec 1 := Scalar.cmpi .ne v132 c0_i32_61
  v133

def k0_off36 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off37 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_155 : BitVec 32 := 0#32
  let c0_i32_156 : BitVec 32 := 0#32
  ![v12.toNat, 0, 0]
def k0_dev27 : Nat :=
  let c0_i32_152 : BitVec 32 := 0#32
  let c1_i32_148 : BitVec 32 := 1#32
  let c8_i32_151 : BitVec 32 := 8#32
  let v253 : BitVec 32 := Scalar.muli c1_i32_148 c8_i32_151
  let v254 : BitVec 32 := Scalar.addi c0_i32_152 v253
  let c0_i32_149 : BitVec 32 := 0#32
  let c4_i32_153 : BitVec 32 := 4#32
  let v255 : BitVec 32 := Scalar.muli c0_i32_149 c4_i32_153
  let v256 : BitVec 32 := Scalar.addi v254 v255
  let c1_i32_150 : BitVec 32 := 1#32
  let c1_i32_154 : BitVec 32 := 1#32
  let v257 : BitVec 32 := Scalar.muli c1_i32_150 c1_i32_154
  let v258 : BitVec 32 := Scalar.addi v256 v257
  v258.toNat
def k0_cond27 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c10_i32_62 : BitVec 32 := 10#32
  let v134 : BitVec 1 := Scalar.cmpi .ne v12 c10_i32_62
  let v135 : BitVec 32 := Scalar.extui v134
  let c0_i32_63 : BitVec 32 := 0#32
  let v136 : BitVec 1 := Scalar.cmpi .ne v135 c0_i32_63
  v136

def k0_off38 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off39 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_155 : BitVec 32 := 0#32
  let c0_i32_156 : BitVec 32 := 0#32
  ![v12.toNat, 0, 0]
def k0_dev28 : Nat :=
  let c0_i32_152 : BitVec 32 := 0#32
  let c1_i32_148 : BitVec 32 := 1#32
  let c8_i32_151 : BitVec 32 := 8#32
  let v253 : BitVec 32 := Scalar.muli c1_i32_148 c8_i32_151
  let v254 : BitVec 32 := Scalar.addi c0_i32_152 v253
  let c0_i32_149 : BitVec 32 := 0#32
  let c4_i32_153 : BitVec 32 := 4#32
  let v255 : BitVec 32 := Scalar.muli c0_i32_149 c4_i32_153
  let v256 : BitVec 32 := Scalar.addi v254 v255
  let c2_i32_150 : BitVec 32 := 2#32
  let c1_i32_154 : BitVec 32 := 1#32
  let v257 : BitVec 32 := Scalar.muli c2_i32_150 c1_i32_154
  let v258 : BitVec 32 := Scalar.addi v256 v257
  v258.toNat
def k0_cond28 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c11_i32_64 : BitVec 32 := 11#32
  let v137 : BitVec 1 := Scalar.cmpi .ne v12 c11_i32_64
  let v138 : BitVec 32 := Scalar.extui v137
  let c0_i32_65 : BitVec 32 := 0#32
  let v139 : BitVec 1 := Scalar.cmpi .ne v138 c0_i32_65
  v139

def k0_off40 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off41 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_155 : BitVec 32 := 0#32
  let c0_i32_156 : BitVec 32 := 0#32
  ![v12.toNat, 0, 0]
def k0_dev29 : Nat :=
  let c0_i32_152 : BitVec 32 := 0#32
  let c1_i32_148 : BitVec 32 := 1#32
  let c8_i32_151 : BitVec 32 := 8#32
  let v253 : BitVec 32 := Scalar.muli c1_i32_148 c8_i32_151
  let v254 : BitVec 32 := Scalar.addi c0_i32_152 v253
  let c0_i32_149 : BitVec 32 := 0#32
  let c4_i32_153 : BitVec 32 := 4#32
  let v255 : BitVec 32 := Scalar.muli c0_i32_149 c4_i32_153
  let v256 : BitVec 32 := Scalar.addi v254 v255
  let c3_i32_150 : BitVec 32 := 3#32
  let c1_i32_154 : BitVec 32 := 1#32
  let v257 : BitVec 32 := Scalar.muli c3_i32_150 c1_i32_154
  let v258 : BitVec 32 := Scalar.addi v256 v257
  v258.toNat
def k0_cond29 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c12_i32_66 : BitVec 32 := 12#32
  let v140 : BitVec 1 := Scalar.cmpi .ne v12 c12_i32_66
  let v141 : BitVec 32 := Scalar.extui v140
  let c0_i32_67 : BitVec 32 := 0#32
  let v142 : BitVec 1 := Scalar.cmpi .ne v141 c0_i32_67
  v142

def k0_off42 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off43 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_155 : BitVec 32 := 0#32
  let c0_i32_156 : BitVec 32 := 0#32
  ![v12.toNat, 0, 0]
def k0_dev30 : Nat :=
  let c0_i32_152 : BitVec 32 := 0#32
  let c1_i32_148 : BitVec 32 := 1#32
  let c8_i32_151 : BitVec 32 := 8#32
  let v253 : BitVec 32 := Scalar.muli c1_i32_148 c8_i32_151
  let v254 : BitVec 32 := Scalar.addi c0_i32_152 v253
  let c1_i32_149 : BitVec 32 := 1#32
  let c4_i32_153 : BitVec 32 := 4#32
  let v255 : BitVec 32 := Scalar.muli c1_i32_149 c4_i32_153
  let v256 : BitVec 32 := Scalar.addi v254 v255
  let c0_i32_150 : BitVec 32 := 0#32
  let c1_i32_154 : BitVec 32 := 1#32
  let v257 : BitVec 32 := Scalar.muli c0_i32_150 c1_i32_154
  let v258 : BitVec 32 := Scalar.addi v256 v257
  v258.toNat
def k0_cond30 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c13_i32_68 : BitVec 32 := 13#32
  let v143 : BitVec 1 := Scalar.cmpi .ne v12 c13_i32_68
  let v144 : BitVec 32 := Scalar.extui v143
  let c0_i32_69 : BitVec 32 := 0#32
  let v145 : BitVec 1 := Scalar.cmpi .ne v144 c0_i32_69
  v145

def k0_off44 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off45 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_155 : BitVec 32 := 0#32
  let c0_i32_156 : BitVec 32 := 0#32
  ![v12.toNat, 0, 0]
def k0_dev31 : Nat :=
  let c0_i32_152 : BitVec 32 := 0#32
  let c1_i32_148 : BitVec 32 := 1#32
  let c8_i32_151 : BitVec 32 := 8#32
  let v253 : BitVec 32 := Scalar.muli c1_i32_148 c8_i32_151
  let v254 : BitVec 32 := Scalar.addi c0_i32_152 v253
  let c1_i32_149 : BitVec 32 := 1#32
  let c4_i32_153 : BitVec 32 := 4#32
  let v255 : BitVec 32 := Scalar.muli c1_i32_149 c4_i32_153
  let v256 : BitVec 32 := Scalar.addi v254 v255
  let c1_i32_150 : BitVec 32 := 1#32
  let c1_i32_154 : BitVec 32 := 1#32
  let v257 : BitVec 32 := Scalar.muli c1_i32_150 c1_i32_154
  let v258 : BitVec 32 := Scalar.addi v256 v257
  v258.toNat
def k0_cond31 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c14_i32_70 : BitVec 32 := 14#32
  let v146 : BitVec 1 := Scalar.cmpi .ne v12 c14_i32_70
  let v147 : BitVec 32 := Scalar.extui v146
  let c0_i32_71 : BitVec 32 := 0#32
  let v148 : BitVec 1 := Scalar.cmpi .ne v147 c0_i32_71
  v148

def k0_off46 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off47 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_155 : BitVec 32 := 0#32
  let c0_i32_156 : BitVec 32 := 0#32
  ![v12.toNat, 0, 0]
def k0_dev32 : Nat :=
  let c0_i32_152 : BitVec 32 := 0#32
  let c1_i32_148 : BitVec 32 := 1#32
  let c8_i32_151 : BitVec 32 := 8#32
  let v253 : BitVec 32 := Scalar.muli c1_i32_148 c8_i32_151
  let v254 : BitVec 32 := Scalar.addi c0_i32_152 v253
  let c1_i32_149 : BitVec 32 := 1#32
  let c4_i32_153 : BitVec 32 := 4#32
  let v255 : BitVec 32 := Scalar.muli c1_i32_149 c4_i32_153
  let v256 : BitVec 32 := Scalar.addi v254 v255
  let c2_i32_150 : BitVec 32 := 2#32
  let c1_i32_154 : BitVec 32 := 1#32
  let v257 : BitVec 32 := Scalar.muli c2_i32_150 c1_i32_154
  let v258 : BitVec 32 := Scalar.addi v256 v257
  v258.toNat
def k0_cond32 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c15_i32_72 : BitVec 32 := 15#32
  let v149 : BitVec 1 := Scalar.cmpi .ne v12 c15_i32_72
  let v150 : BitVec 32 := Scalar.extui v149
  let c0_i32_73 : BitVec 32 := 0#32
  let v151 : BitVec 1 := Scalar.cmpi .ne v150 c0_i32_73
  v151

def k0_off48 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off49 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_155 : BitVec 32 := 0#32
  let c0_i32_156 : BitVec 32 := 0#32
  ![v12.toNat, 0, 0]
def k0_dev33 : Nat :=
  let c0_i32_152 : BitVec 32 := 0#32
  let c1_i32_148 : BitVec 32 := 1#32
  let c8_i32_151 : BitVec 32 := 8#32
  let v253 : BitVec 32 := Scalar.muli c1_i32_148 c8_i32_151
  let v254 : BitVec 32 := Scalar.addi c0_i32_152 v253
  let c1_i32_149 : BitVec 32 := 1#32
  let c4_i32_153 : BitVec 32 := 4#32
  let v255 : BitVec 32 := Scalar.muli c1_i32_149 c4_i32_153
  let v256 : BitVec 32 := Scalar.addi v254 v255
  let c3_i32_150 : BitVec 32 := 3#32
  let c1_i32_154 : BitVec 32 := 1#32
  let v257 : BitVec 32 := Scalar.muli c3_i32_150 c1_i32_154
  let v258 : BitVec 32 := Scalar.addi v256 v257
  v258.toNat
def k0_cond49 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_112 : BitVec 32 := 0#32
  let v203 : BitVec 1 := Scalar.cmpi .ne v12 c0_i32_112
  let v204 : BitVec 32 := Scalar.extui v203
  let c0_i32_113 : BitVec 32 := 0#32
  let v205 : BitVec 1 := Scalar.cmpi .ne v204 c0_i32_113
  v205

def k0_off50 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_149 : BitVec 32 := 0#32
  let c0_i32_150 : BitVec 32 := 0#32
  ![v12.toNat, 0, 0]
def k0_cond50 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c1_i32_114 : BitVec 32 := 1#32
  let v206 : BitVec 1 := Scalar.cmpi .ne v12 c1_i32_114
  let v207 : BitVec 32 := Scalar.extui v206
  let c0_i32_115 : BitVec 32 := 0#32
  let v208 : BitVec 1 := Scalar.cmpi .ne v207 c0_i32_115
  v208

def k0_off51 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_149 : BitVec 32 := 0#32
  let c0_i32_150 : BitVec 32 := 0#32
  ![v12.toNat, 0, 0]
def k0_cond51 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c2_i32_116 : BitVec 32 := 2#32
  let v209 : BitVec 1 := Scalar.cmpi .ne v12 c2_i32_116
  let v210 : BitVec 32 := Scalar.extui v209
  let c0_i32_117 : BitVec 32 := 0#32
  let v211 : BitVec 1 := Scalar.cmpi .ne v210 c0_i32_117
  v211

def k0_off52 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_149 : BitVec 32 := 0#32
  let c0_i32_150 : BitVec 32 := 0#32
  ![v12.toNat, 0, 0]
def k0_cond52 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c3_i32_118 : BitVec 32 := 3#32
  let v212 : BitVec 1 := Scalar.cmpi .ne v12 c3_i32_118
  let v213 : BitVec 32 := Scalar.extui v212
  let c0_i32_119 : BitVec 32 := 0#32
  let v214 : BitVec 1 := Scalar.cmpi .ne v213 c0_i32_119
  v214

def k0_off53 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_149 : BitVec 32 := 0#32
  let c0_i32_150 : BitVec 32 := 0#32
  ![v12.toNat, 0, 0]
def k0_cond53 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c4_i32_120 : BitVec 32 := 4#32
  let v215 : BitVec 1 := Scalar.cmpi .ne v12 c4_i32_120
  let v216 : BitVec 32 := Scalar.extui v215
  let c0_i32_121 : BitVec 32 := 0#32
  let v217 : BitVec 1 := Scalar.cmpi .ne v216 c0_i32_121
  v217

def k0_off54 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_149 : BitVec 32 := 0#32
  let c0_i32_150 : BitVec 32 := 0#32
  ![v12.toNat, 0, 0]
def k0_cond54 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c5_i32_122 : BitVec 32 := 5#32
  let v218 : BitVec 1 := Scalar.cmpi .ne v12 c5_i32_122
  let v219 : BitVec 32 := Scalar.extui v218
  let c0_i32_123 : BitVec 32 := 0#32
  let v220 : BitVec 1 := Scalar.cmpi .ne v219 c0_i32_123
  v220

def k0_off55 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_149 : BitVec 32 := 0#32
  let c0_i32_150 : BitVec 32 := 0#32
  ![v12.toNat, 0, 0]
def k0_cond55 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c6_i32_124 : BitVec 32 := 6#32
  let v221 : BitVec 1 := Scalar.cmpi .ne v12 c6_i32_124
  let v222 : BitVec 32 := Scalar.extui v221
  let c0_i32_125 : BitVec 32 := 0#32
  let v223 : BitVec 1 := Scalar.cmpi .ne v222 c0_i32_125
  v223

def k0_off56 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_149 : BitVec 32 := 0#32
  let c0_i32_150 : BitVec 32 := 0#32
  ![v12.toNat, 0, 0]
def k0_cond56 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c7_i32_126 : BitVec 32 := 7#32
  let v224 : BitVec 1 := Scalar.cmpi .ne v12 c7_i32_126
  let v225 : BitVec 32 := Scalar.extui v224
  let c0_i32_127 : BitVec 32 := 0#32
  let v226 : BitVec 1 := Scalar.cmpi .ne v225 c0_i32_127
  v226

def k0_off57 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_149 : BitVec 32 := 0#32
  let c0_i32_150 : BitVec 32 := 0#32
  ![v12.toNat, 0, 0]
def k0_cond57 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c8_i32_128 : BitVec 32 := 8#32
  let v227 : BitVec 1 := Scalar.cmpi .ne v12 c8_i32_128
  let v228 : BitVec 32 := Scalar.extui v227
  let c0_i32_129 : BitVec 32 := 0#32
  let v229 : BitVec 1 := Scalar.cmpi .ne v228 c0_i32_129
  v229

def k0_off58 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_149 : BitVec 32 := 0#32
  let c0_i32_150 : BitVec 32 := 0#32
  ![v12.toNat, 0, 0]
def k0_cond58 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c9_i32_130 : BitVec 32 := 9#32
  let v230 : BitVec 1 := Scalar.cmpi .ne v12 c9_i32_130
  let v231 : BitVec 32 := Scalar.extui v230
  let c0_i32_131 : BitVec 32 := 0#32
  let v232 : BitVec 1 := Scalar.cmpi .ne v231 c0_i32_131
  v232

def k0_off59 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_149 : BitVec 32 := 0#32
  let c0_i32_150 : BitVec 32 := 0#32
  ![v12.toNat, 0, 0]
def k0_cond59 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c10_i32_132 : BitVec 32 := 10#32
  let v233 : BitVec 1 := Scalar.cmpi .ne v12 c10_i32_132
  let v234 : BitVec 32 := Scalar.extui v233
  let c0_i32_133 : BitVec 32 := 0#32
  let v235 : BitVec 1 := Scalar.cmpi .ne v234 c0_i32_133
  v235

def k0_off60 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_149 : BitVec 32 := 0#32
  let c0_i32_150 : BitVec 32 := 0#32
  ![v12.toNat, 0, 0]
def k0_cond60 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c11_i32_134 : BitVec 32 := 11#32
  let v236 : BitVec 1 := Scalar.cmpi .ne v12 c11_i32_134
  let v237 : BitVec 32 := Scalar.extui v236
  let c0_i32_135 : BitVec 32 := 0#32
  let v238 : BitVec 1 := Scalar.cmpi .ne v237 c0_i32_135
  v238

def k0_off61 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_149 : BitVec 32 := 0#32
  let c0_i32_150 : BitVec 32 := 0#32
  ![v12.toNat, 0, 0]
def k0_cond61 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c12_i32_136 : BitVec 32 := 12#32
  let v239 : BitVec 1 := Scalar.cmpi .ne v12 c12_i32_136
  let v240 : BitVec 32 := Scalar.extui v239
  let c0_i32_137 : BitVec 32 := 0#32
  let v241 : BitVec 1 := Scalar.cmpi .ne v240 c0_i32_137
  v241

def k0_off62 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_149 : BitVec 32 := 0#32
  let c0_i32_150 : BitVec 32 := 0#32
  ![v12.toNat, 0, 0]
def k0_cond62 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c13_i32_138 : BitVec 32 := 13#32
  let v242 : BitVec 1 := Scalar.cmpi .ne v12 c13_i32_138
  let v243 : BitVec 32 := Scalar.extui v242
  let c0_i32_139 : BitVec 32 := 0#32
  let v244 : BitVec 1 := Scalar.cmpi .ne v243 c0_i32_139
  v244

def k0_off63 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_149 : BitVec 32 := 0#32
  let c0_i32_150 : BitVec 32 := 0#32
  ![v12.toNat, 0, 0]
def k0_cond63 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c14_i32_140 : BitVec 32 := 14#32
  let v245 : BitVec 1 := Scalar.cmpi .ne v12 c14_i32_140
  let v246 : BitVec 32 := Scalar.extui v245
  let c0_i32_141 : BitVec 32 := 0#32
  let v247 : BitVec 1 := Scalar.cmpi .ne v246 c0_i32_141
  v247

def k0_off64 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_149 : BitVec 32 := 0#32
  let c0_i32_150 : BitVec 32 := 0#32
  ![v12.toNat, 0, 0]
def k0_cond64 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c15_i32_142 : BitVec 32 := 15#32
  let v248 : BitVec 1 := Scalar.cmpi .ne v12 c15_i32_142
  let v249 : BitVec 32 := Scalar.extui v248
  let c0_i32_143 : BitVec 32 := 0#32
  let v250 : BitVec 1 := Scalar.cmpi .ne v249 c0_i32_143
  v250

def k0_off65 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_149 : BitVec 32 := 0#32
  let c0_i32_150 : BitVec 32 := 0#32
  ![v12.toNat, 0, 0]
abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S2x2048 : Shape := ⟨2, ![2, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .i32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S1x2048, .f32⟩
  | .hbm, ⟨51, _⟩ => ⟨S2x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Talk.KernelIdealProto.lean ====
/-
# The protocol of the sixteen devices

Every device owns an inbox of sixteen slots, one for each device of the mesh. It signals the
barrier of the device across the first axis and waits for its own; it then tells every other
device, on that device's credit semaphore, that its slot for it is free; computes its own pair of
partial sums into its own slot; and, a peer at a time, waits for the peer's credit and copies its
slot into the peer's inbox. It waits for the fifteen copies it is sent, sums the sixteen slots,
and waits for the copies it started to be done.

* barrier of `c`: one unit from the device across, nothing with it;
* credit semaphore `j` of `c`: one unit from device `j`, and with it slot `c` of the inbox of `j`;
* receive semaphore `j` of `c`: the credit of one slot from the copy of device `j`, and with it
  slot `j` of the inbox of `c`, holding the partial sums of `j`;
* send semaphore `j` of `c`: the same credit from the copy to device `j`, and with it the
  sixteenth part of the share of `c`'s own slot that the copy read through.

What is left over is common to all devices: the inbox when every slot has been filled (`inbox`).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Rounds
public import Idealize.ShloMosaic.Lib.ShareLeaves
public import Idealize.ShloMosaic.Lib.Ring
public import Idealize.ShloMosaic.Lib.Tactic

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

/-- The two ghost books: the pipeline's own cells, and the cells the devices talk on. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

/-! ## The semaphores -/

/-- The device across the first axis of the mesh. -/
def across (c : Dev nD) : Dev nD := ⟨(c.val + 8) % 16, Nat.mod_lt _ (by decide)⟩

theorem across_across (c : Dev nD) : across (across c) = c := by revert c; decide
theorem across_ne (c : Dev nD) : across c ≠ c := by revert c; decide

/-- The exchange of the two halves of the mesh. -/
def swap : Dev nD ≃ Dev nD := ⟨across, across, across_across, across_across⟩

theorem dev1_eq (c : Dev nD) : (⟨k0_dev1 c, k0_dev1_lt c⟩ : Dev nD) = across c := by revert c; decide +kernel

abbrev barS : Sem sig := (SemArray.scalar (sig.barrier 0 rfl) : Sems sig S_).sem
def credS (j : Dev nD) : Sem sig := ⟨j.val, by have h := j.isLt; unfold nD at h; show j.val < 17; omega⟩
def sendS (j : Dev nD) : DmaSem sig := ⟨3 + j.val, by have h := j.isLt; unfold nD at h; show 3 + j.val < 35; omega⟩
def recvS (j : Dev nD) : DmaSem sig := ⟨19 + j.val, by have h := j.isLt; unfold nD at h; show 19 + j.val < 35; omega⟩

theorem credS_inj {i j : Dev nD} (h : credS i = credS j) : i = j := Fin.ext (by have := congrArg Fin.val h; simpa [credS] using this)
theorem sendS_inj {i j : Dev nD} (h : sendS i = sendS j) : i = j := Fin.ext (by have := congrArg Fin.val h; simpa [sendS] using this)
theorem recvS_inj {i j : Dev nD} (h : recvS i = recvS j) : i = j := Fin.ext (by have := congrArg Fin.val h; simpa [recvS] using this)
theorem credS_ne_bar (j : Dev nD) : credS j ≠ barS := by revert j; decide
theorem sendS_ne_recvS (i j : Dev nD) : sendS i ≠ recvS j := by revert i j; decide

/-- Which kind of scoped semaphore, and for which peer. -/
abbrev Kx : Type := Fin 3 × Dev nD

/-- The scoped semaphores of the kernel: credit, send, receive, one each for every peer. -/
def osem : Kx → SemLoc sig
  | (0, j) => .reg (credS j)
  | (1, j) => .dma (sendS j)
  | (2, j) => .dma (recvS j)

/-- The barrier's and the scoped semaphores. -/
def csem : Option Kx → SemLoc sig
  | none => .reg barS
  | some k => osem k

abbrev kcell (ck : Dev nD × Option Kx) : GSem nD τ sig := ((ck.1 : Thread nD τ), csem ck.2)

abbrev barCell (c : Dev nD) : GSem nD τ sig := ((c : Thread nD τ), .reg barS)
abbrev credCell (c j : Dev nD) : GSem nD τ sig := ((c : Thread nD τ), .reg (credS j))
abbrev sendCell (c j : Dev nD) : GSem nD τ sig := ((c : Thread nD τ), .dma (sendS j))
abbrev recvCell (c j : Dev nD) : GSem nD τ sig := ((c : Thread nD τ), .dma (recvS j))

theorem csem_injective : Function.Injective csem := by
  rintro (_ | ⟨k, j⟩) (_ | ⟨k', j'⟩) h
  · rfl
  · fin_cases k'
    · exact absurd (SemLoc.reg.inj h).symm (credS_ne_bar j')
    · cases h
    · cases h
  · fin_cases k
    · exact absurd (SemLoc.reg.inj h) (credS_ne_bar j)
    · cases h
    · cases h
  · fin_cases k <;> fin_cases k' <;> first
      | (cases h; done)
      | (have := credS_inj (SemLoc.reg.inj h); subst this; rfl)
      | (have := sendS_inj (SemLoc.dma.inj h); subst this; rfl)
      | (have := recvS_inj (SemLoc.dma.inj h); subst this; rfl)
      | exact absurd (SemLoc.dma.inj h) (sendS_ne_recvS _ _)
      | exact absurd (SemLoc.dma.inj h).symm (sendS_ne_recvS _ _)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The semaphore a cell is, read back; `none` at the staging semaphores. -/
def decode (s : SemLoc sig) : Option (Option Kx) := by
  classical exact if h : ∃ k, csem k = s then some h.choose else none

theorem decode_csem (k : Option Kx) : decode (csem k) = some k := by
  unfold decode
  have h : ∃ k', csem k' = csem k := ⟨k, rfl⟩
  rw [dif_pos h]
  exact congrArg some (csem_injective h.choose_spec)

/-! ## The slots -/

theorem slot_inb (j : Dev nD) : ∀ a, (![j.val, 0, 0] : Fin 3 → ℕ) a + S1x2x2048.size a ≤ S16x2x2048.size a := by revert j; decide

/-- The rectangle of slot `j`. -/
abbrev slotR (j : Dev nD) : Rect S16x2x2048 := Rect.unit (s := S16x2x2048) ![j.val, 0, 0] S1x2x2048.size (slot_inb j)
/-- Slot `j` as the transfers name it. -/
abbrev slotM (j : Dev nD) : Memref sig .tc .vmem S2x2048 .f32 :=
  ((Memref.whole cc0_scratch0).slice (slotR j) (fun _ => rfl)).squeeze S2x2048 squeezes_S1x2x2048_S2x2048

/-- The elements of slot `j`. -/
abbrev slotSet (j : Dev nD) : Finset S16x2x2048.Idx := (slotR j).set

theorem slotM_set (j : Dev nD) : (slotM j).view.set = slotSet j :=
  (View.set_reshape _ _).trans (View.set_slice_whole cc0_scratch0 (slotR j))

theorem mem_slotSet (j : Dev nD) (i : S16x2x2048.Idx) : i ∈ slotSet j ↔ (i 0).val = j.val := by
  rw [Rect.mem_set_unit]
  constructor
  · intro h
    have h0 := h 0
    have e1 : (![j.val, 0, 0] : Fin 3 → ℕ) 0 = j.val := rfl
    have e2 : S1x2x2048.size 0 = 1 := rfl
    rw [e1, e2] at h0
    omega
  · intro h a
    fin_cases a
    · exact ⟨le_of_eq h.symm, by show (i 0).val < j.val + 1; omega⟩
    · exact ⟨Nat.zero_le _, by have := (i 1).isLt; simpa using this⟩
    · exact ⟨Nat.zero_le _, by have := (i 2).isLt; simpa using this⟩

theorem slot_disjoint (i j : Dev nD) (h : i ≠ j) : Disjoint (slotSet i) (slotSet j) :=
  Finset.disjoint_left.mpr fun x hi hj => h (Fin.ext (((mem_slotSet i x).mp hi).symm.trans ((mem_slotSet j x).mp hj)))
theorem slot_cover : Finset.univ.biUnion slotSet = (Finset.univ : Finset S16x2x2048.Idx) :=
  Finset.eq_univ_iff_forall.mpr fun x => Finset.mem_biUnion.mpr ⟨x 0, Finset.mem_univ _, (mem_slotSet _ x).mpr rfl⟩

/-- Slot `j` of the inbox of `d`, at the share `q`. -/
def slotPts (d j : Dev nD) (q : PosShare TreeShare) (f : Buf (Elt F) ((d : Thread nD τ).loc cc0_scratch0)) : sProp 𝕄 :=
  ((d : Thread nD τ).loc cc0_scratch0) ↦[slotSet j]{q} f

instance slotPts_storable (d j : Dev nD) (q) (f) : BI.Storable (upEmb : UEmb _ 𝕄) (slotPts (F := F) d j q f) := by unfold slotPts; infer_instance

/-- What one copy counts on its two semaphores. -/
abbrev N : ℕ := (slotM 0).view.dmaCredit
theorem N_pos : 0 < N := View.dmaCredit_pos _ (by decide)
theorem N_eq (j : Dev nD) : (slotM j).view.dmaCredit = N := rfl

/-! ## The contents -/

/-- The rows of `x` device `c` holds, as its kernel finds them. -/
def xblk (c : Dev nD) : (cc0_stg0_0 : Ref sig .tc).ty.Contents (Elt F) :=
  (win0_0.blk (0 : Fin 1)).view.read (Elt F) (m ((c : Thread nD τ).loc main_arg0))
/-- The rows of `dy` likewise. -/
def dyblk (c : Dev nD) : (cc0_stg1_0 : Ref sig .tc).ty.Contents (Elt F) :=
  (win0_1.blk (0 : Fin 1)).view.read (Elt F) (m ((c : Thread nD τ).loc main_arg1))

/-- The two partial sums of device `c`. -/
def partials (c : Dev nD) : FVec F S1x2x2048 .f32 := k0_pay2 (k0_pay1 (xblk m c) (dyblk m c))

/-- An inbox with every slot filled: the same on every device. -/
def inbox : S16x2x2048.Idx → Elt F .f32 := fun i => partials m (i 0) (fun | 0 => (0 : Fin 1) | 1 => i 1 | 2 => i 2)

/-- The result: the sixteen slots summed. -/
def result : FVec F S2x2048 .f32 := k0_pay3 (inbox m)

/-! ## The schedule -/

/-- Which semaphores of device `c` count anything: a device is no peer of its own. -/
def dutiesAt (c : Dev nD) : Option Kx → Finset Unit
  | none => {()}
  | some (_, j) => if j = c then ∅ else {()}

def amountAt : Option Kx → ℕ
  | none => 1
  | some (0, _) => 1
  | some (1, _) => N
  | some (2, _) => N

/-- What comes with the count. -/
def payAt (c : Dev nD) : Option Kx → sProp 𝕄
  | none => iprop(emp)
  | some (0, j) => iprop(∃ f, slotPts j c fullShare f)
  | some (1, j) => slotPts c c (leaf 4 fullShare j) (inbox m)
  | some (2, j) => slotPts c j fullShare (inbox m)

instance payAt_storable (c : Dev nD) (k : Option Kx) : BI.Storable (upEmb : UEmb _ 𝕄) (payAt (F := F) m c k) := by
  rcases k with _ | ⟨k, j⟩
  · show BI.Storable upEmb iprop(emp); infer_instance
  · fin_cases k
    · show BI.Storable upEmb iprop(∃ f, slotPts j c fullShare f); infer_instance
    · show BI.Storable upEmb (slotPts c c (leaf 4 fullShare j) (inbox m)); infer_instance
    · show BI.Storable upEmb (slotPts c j fullShare (inbox m)); infer_instance

theorem amountAt_pos (k : Option Kx) : 0 < amountAt k := by
  rcases k with _ | ⟨k, j⟩
  · exact Nat.one_pos
  · fin_cases k
    · exact Nat.one_pos
    · exact N_pos
    · exact N_pos

/-- The schedule of every cell: one round, at most one duty. -/
def Rd : Rounds.Schedule (GSem nD τ sig) Unit 𝕄 where
  duties g r := if r = 0 ∧ g.1.2 = .tc then (decode g.2).elim ∅ (dutiesAt g.1.1) else ∅
  unitless _ := False
  amount g _ _ := (decode g.2).elim 1 amountAt
  payload g _ _ := (decode g.2).elim iprop(emp) (payAt m g.1.1)
  amount_pos g _ _ _ := by
    rcases decode g.2 with _ | k
    · exact Nat.one_pos
    · exact amountAt_pos k

instance Rd_payload_storable (g : GSem nD τ sig) (r : ℕ) (d : Unit) : BI.Storable (upEmb : UEmb _ 𝕄) ((Rd (F := F) m).payload g r d) := by
  show BI.Storable upEmb ((decode g.2).elim iprop(emp) (payAt m g.1.1))
  rcases decode g.2 with _ | k
  · show BI.Storable upEmb iprop(emp); infer_instance
  · show BI.Storable upEmb (payAt m g.1.1 k); infer_instance

section Sched
variable (c j : Dev nD) (k : Option Kx)

theorem duties_at : (Rd (F := F) m).duties (kcell (c, k)) 0 = dutiesAt c k := by
  dsimp only [Rd]; rw [if_pos ⟨rfl, rfl⟩, decode_csem]; rfl
theorem amount_at (u : Unit) : (Rd (F := F) m).amount (kcell (c, k)) 0 u = amountAt k := by
  show (decode (csem k)).elim 1 amountAt = _; rw [decode_csem]; rfl
theorem payload_at (u : Unit) : (Rd (F := F) m).payload (kcell (c, k)) 0 u = payAt m c k := by
  show (decode (csem k)).elim iprop(emp) (payAt m c) = _; rw [decode_csem]; rfl
theorem duties_later (g : GSem nD τ sig) : ∀ r, 1 ≤ r → (Rd (F := F) m).duties g r = ∅ :=
  fun r hr => if_neg fun h => by omega

theorem dutiesAt_peer (q : Fin 3) (h : j ≠ c) : dutiesAt c (some (q, j)) = {()} := if_neg h
theorem dutiesAt_self (q : Fin 3) : dutiesAt c (some (q, c)) = ∅ := if_pos rfl

variable {c k} in
theorem expect_at (h : dutiesAt c k = {()}) : (Rd (F := F) m).expect (kcell (c, k)) 0 = amountAt k := by
  unfold Schedule.expect Schedule.amountOf; rw [duties_at, h, Finset.sum_singleton, amount_at]
variable {c k} in
theorem rest_at (h : dutiesAt c k = {()}) :
    bigSep ((Rd (F := F) m).duties (kcell (c, k)) 0 \ ∅) (fun u => (Rd (F := F) m).payload (kcell (c, k)) 0 u) = payAt m c k := by
  rw [Finset.sdiff_empty, duties_at, h, bigSep_singleton, payload_at]

/-- A semaphore of a device for itself counts nothing. -/
theorem duties_self (q : Fin 3) : ∀ r, 0 ≤ r → (Rd (F := F) m).duties (kcell (c, some (q, c))) r = ∅ := fun r _ => by
  rcases Nat.eq_zero_or_pos r with rfl | h
  · rw [duties_at, dutiesAt_self]
  · exact duties_later m _ r h
end Sched

/-! ## The contents of the slots -/

/-- A device's own partial sums, stored over its slot, are the inbox's there. -/
theorem own_slot (c : Dev nD) (f : (cc0_scratch0 : Ref sig .tc).ty.Contents (Elt F)) (i : S16x2x2048.Idx) (hi : i ∈ slotSet c) :
    ((Memref.whole cc0_scratch0).access (slotR c) : View sig .tc _ _ _).write (Elt F) f (partials m c) Finset.univ i = inbox m i := by
  have hi' : i ∈ ((View.whole cc0_scratch0 : View sig .tc _ _ _).slice (slotR c)).set := by rw [View.set_slice_whole]; exact hi
  obtain ⟨x, -, rfl⟩ := Finset.mem_map.mp hi'
  refine (View.write_emb_of_mem (v := ((Memref.whole cc0_scratch0).access (slotR c) : View sig .tc _ _ _)) _ _ (Finset.mem_univ x)).trans ?_
  show partials m c x = inbox m ((slotR c).emb x)
  unfold inbox
  have h0 : ((slotR c).emb x) 0 = c := Fin.ext ((mem_slotSet c _).mp hi)
  rw [h0]
  congr 1
  funext a
  fin_cases a
  · exact Subsingleton.elim (α := Fin 1) _ _
  · exact Fin.ext (by show (x 1).val = 0 + 1 * (x 1).val; omega)
  · exact Fin.ext (by show (x 2).val = 0 + 1 * (x 2).val; omega)

/-- A slot copied onto the same slot of another inbox is the inbox's there. -/
theorem copied_slot (c : Dev nD) (fd : (cc0_scratch0 : Ref sig .tc).ty.Contents (Elt F)) (i : S16x2x2048.Idx) (hi : i ∈ (slotM c).view.set) :
    (slotM c).view.write (Elt F) fd ((slotM c).view.read (Elt F) (inbox m)) Finset.univ i = inbox m i := by
  obtain ⟨x, -, rfl⟩ := Finset.mem_map.mp hi
  rw [View.write_emb_of_mem _ _ (Finset.mem_univ x)]
  rfl

/-- An inbox held whole is held slot by slot. -/
theorem inbox_slots (d : Dev nD) (q : PosShare TreeShare) (f : Buf (Elt F) ((d : Thread nD τ).loc cc0_scratch0)) :
    (((d : Thread nD τ).loc cc0_scratch0) ↦{q} f : sProp 𝕄) = bigSep Finset.univ fun j => slotPts d j q f :=
  Idealize.ShloMosaic.Ring.pointsTo_blocks (ℓ := (d : Thread nD τ).loc cc0_scratch0) slotSet slot_disjoint slot_cover f

/-- A slot held whole is held in sixteen parts, one for each device. -/
theorem slot_parts (d j : Dev nD) (f : Buf (Elt F) ((d : Thread nD τ).loc cc0_scratch0)) :
    (slotPts d j fullShare f : sProp 𝕄) = bigSep Finset.univ fun i : Dev nD => slotPts d j (leaf 4 fullShare i) f :=
  ShareLeaves.pointsTo_leaves _ f 4 fullShare

/-! ## The peers still to come, and those behind -/

/-- The peers of `c` from number `n` on. -/
def ahead (c : Dev nD) (n : ℕ) : Finset (Dev nD) := Finset.univ.filter fun j => n ≤ j.val ∧ j ≠ c
/-- The peers of `c` before number `n`. -/
def behind (c : Dev nD) (n : ℕ) : Finset (Dev nD) := Finset.univ.filter fun j => j.val < n ∧ j ≠ c

theorem mem_ahead {c j : Dev nD} {n : ℕ} : j ∈ ahead c n ↔ n ≤ j.val ∧ j ≠ c := by simp [ahead]
theorem mem_behind {c j : Dev nD} {n : ℕ} : j ∈ behind c n ↔ j.val < n ∧ j ≠ c := by simp [behind]

theorem ahead_step {c n : Dev nD} (h : n ≠ c) : ahead c n.val = insert n (ahead c (n.val + 1)) := by
  ext j; rw [Finset.mem_insert, mem_ahead, mem_ahead]
  constructor
  · rintro ⟨h1, h2⟩
    rcases Nat.lt_or_ge n.val j.val with h3 | h3
    · exact Or.inr ⟨h3, h2⟩
    · exact Or.inl (Fin.ext (Nat.le_antisymm h3 h1))
  · rintro (rfl | ⟨h1, h2⟩)
    · exact ⟨le_refl _, h⟩
    · exact ⟨by omega, h2⟩
theorem ahead_fresh (c n : Dev nD) : n ∉ ahead c (n.val + 1) := fun h => by have := (mem_ahead.mp h).1; omega
theorem ahead_self (c : Dev nD) : ahead c c.val = ahead c (c.val + 1) := by
  ext j; rw [mem_ahead, mem_ahead]
  exact ⟨fun ⟨h1, h2⟩ => ⟨Nat.lt_of_le_of_ne h1 fun h => h2 (Fin.ext h.symm), h2⟩, fun ⟨h1, h2⟩ => ⟨by omega, h2⟩⟩
theorem behind_step {c n : Dev nD} (h : n ≠ c) : behind c (n.val + 1) = insert n (behind c n.val) := by
  ext j; rw [Finset.mem_insert, mem_behind, mem_behind]
  constructor
  · rintro ⟨h1, h2⟩
    rcases Nat.lt_or_ge j.val n.val with h3 | h3
    · exact Or.inr ⟨h3, h2⟩
    · exact Or.inl (Fin.ext (by omega))
  · rintro (rfl | ⟨h1, h2⟩)
    · exact ⟨by omega, h⟩
    · exact ⟨by omega, h2⟩
theorem behind_fresh (c n : Dev nD) : n ∉ behind c n.val := fun h => by have := (mem_behind.mp h).1; omega
theorem behind_self (c : Dev nD) : behind c (c.val + 1) = behind c c.val := by
  ext j; rw [mem_behind, mem_behind]
  exact ⟨fun ⟨h1, h2⟩ => ⟨Nat.lt_of_le_of_ne (by omega) fun h => h2 (Fin.ext h), h2⟩, fun ⟨h1, h2⟩ => ⟨by omega, h2⟩⟩
theorem behind_zero (c : Dev nD) : behind c 0 = ∅ := by
  ext j; rw [mem_behind]; exact ⟨fun h => absurd h.1 (Nat.not_lt_zero _), fun h => absurd h (Finset.notMem_empty _)⟩
theorem ahead_end (c : Dev nD) : ahead c 16 = ∅ := by
  ext j; rw [mem_ahead]; exact ⟨fun h => absurd j.isLt (Nat.not_lt.mpr h.1), fun h => absurd h (Finset.notMem_empty _)⟩
theorem behind_end (c : Dev nD) : behind c 16 = ahead c 0 := by
  ext j; rw [mem_behind, mem_ahead]; exact ⟨fun h => ⟨Nat.zero_le _, h.2⟩, fun h => ⟨j.isLt, h.2⟩⟩
theorem univ_peers (c : Dev nD) : (Finset.univ : Finset (Dev nD)) = insert c (ahead c 0) := by
  ext j; rw [Finset.mem_insert, mem_ahead]
  refine ⟨fun _ => ?_, fun _ => Finset.mem_univ _⟩
  by_cases h : j = c
  · exact Or.inl h
  · exact Or.inr ⟨Nat.zero_le _, h⟩
theorem self_fresh (c : Dev nD) : c ∉ ahead c 0 := fun h => (mem_ahead.mp h).2 rfl

section Sep
variable {M : Type} [URA M] (Φ : Dev nD → sProp M)

theorem sep_ahead {c n : Dev nD} (h : n ≠ c) : bigSep (ahead c n.val) Φ = iprop(Φ n ∗ bigSep (ahead c (n.val + 1)) Φ) := by
  rw [ahead_step h, bigSep_insert (ahead_fresh c n)]; rfl
theorem sep_behind {c n : Dev nD} (h : n ≠ c) : bigSep (behind c (n.val + 1)) Φ = iprop(Φ n ∗ bigSep (behind c n.val) Φ) := by
  rw [behind_step h, bigSep_insert (behind_fresh c n)]; rfl
theorem sep_peers (c : Dev nD) : bigSep Finset.univ Φ = iprop(Φ c ∗ bigSep (ahead c 0) Φ) := by
  rw [univ_peers c, bigSep_insert (self_fresh c)]; rfl
end Sep

/-! ## What each device owes; the levels -/

/-- The credits `c` still has to give from peer `n` on. -/
def owedCred (c : Dev nD) (n : ℕ) : CellTallies nD τ sig Unit := ∑ j ∈ ahead c n, tallyAt (credCell j c) () 1
/-- The copies `c` still has to make from peer `n` on. -/
def owedRecv (c : Dev nD) (n : ℕ) : CellTallies nD τ sig Unit := ∑ j ∈ ahead c n, tallyAt (recvCell j c) () N
/-- At launch: every credit and every copy, and the barrier of the device across. -/
def O₀ (c : Dev nD) : CellTallies nD τ sig Unit := (owedCred c 0 + owedRecv c 0) + tallyAt (barCell (across c)) () 1

theorem owedCred_step {c n : Dev nD} (h : n ≠ c) : owedCred c n.val = owedCred c (n.val + 1) + tallyAt (credCell n c) () 1 := by
  unfold owedCred; rw [ahead_step h, Finset.sum_insert (ahead_fresh c n), add_comm]
theorem owedRecv_step {c n : Dev nD} (h : n ≠ c) : owedRecv c n.val = owedRecv c (n.val + 1) + tallyAt (recvCell n c) () N := by
  unfold owedRecv; rw [ahead_step h, Finset.sum_insert (ahead_fresh c n), add_comm]
theorem owedCred_end (c : Dev nD) : owedCred c 16 = 0 := by unfold owedCred; rw [ahead_end, Finset.sum_empty]
theorem owedRecv_end (c : Dev nD) : owedRecv c 16 = 0 := by unfold owedRecv; rw [ahead_end, Finset.sum_empty]

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The barrier before the credits before the copies; sending and staging below all. -/
def lvAt : Option Kx → ℕ
  | none => 1
  | some (0, _) => 2
  | some (1, _) => 0
  | some (2, _) => 3
def lv (g : GSem nD τ sig) (_ : Unit) : ℕ := (decode g.2).elim 0 lvAt
theorem lv_at (c : Dev nD) (k : Option Kx) (u : Unit) : lv (kcell (c, k)) u = lvAt k := by
  show (decode (csem k)).elim 0 lvAt = _; rw [decode_csem]; rfl

theorem tally_pos {g₀ g : GSem nD τ sig} {k : ℕ} {u : Unit} (h : 0 < (tallyAt g₀ () k : CellTallies nD τ sig Unit) g u) : g = g₀ := by
  rw [tallyAt_apply] at h
  by_contra hn
  rw [if_neg (fun h' => hn h'.1)] at h
  exact Nat.lt_irrefl 0 h

theorem sum_pos {S : Finset (Dev nD)} {T : Dev nD → CellTallies nD τ sig Unit} {g : GSem nD τ sig} {u : Unit}
    (h : 0 < (∑ j ∈ S, T j) g u) : ∃ j ∈ S, 0 < T j g u := by
  by_contra hn
  push Not at hn
  refine absurd h (Nat.not_lt.mpr (Nat.le_of_eq ?_))
  rw [Finset.sum_apply, Finsupp.finset_sum_apply]
  exact Finset.sum_eq_zero fun j hj => Nat.le_zero.mp (hn j hj)

theorem owedCred_pos {c : Dev nD} {n : ℕ} {g : GSem nD τ sig} {u : Unit} (h : 0 < owedCred c n g u) : ∃ j, g = credCell j c := by
  obtain ⟨j, -, hj⟩ := sum_pos h; exact ⟨j, tally_pos hj⟩
theorem owedRecv_pos {c : Dev nD} {n : ℕ} {g : GSem nD τ sig} {u : Unit} (h : 0 < owedRecv c n g u) : ∃ j, g = recvCell j c := by
  obtain ⟨j, -, hj⟩ := sum_pos h; exact ⟨j, tally_pos hj⟩
theorem add_pos_or {A B : CellTallies nD τ sig Unit} {g : GSem nD τ sig} {u : Unit} (h : 0 < (A + B) g u) : 0 < A g u ∨ 0 < B g u := by
  rw [Pi.add_apply, Finsupp.add_apply] at h
  omega

/-- A wait is allowed when everything owed lies above it. -/
theorem mayWait_below (c : Dev nD) (sm : SemLoc sig) (b : ℕ) (hb : lv ((c : Thread nD τ), sm) () = b) (O : CellTallies nD τ sig Unit)
    (hO : ∀ g u, 0 < O g u → ∃ d k, g = kcell (d, k) ∧ b < lvAt k) :
    (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by obtain ⟨d, k, rfl, -⟩ := hO g u hg; rw [L_tc]; exact Finset.mem_singleton_self _)
    (fun p hp => by rw [Finset.mem_singleton.mp hp]; exact le_of_eq hb)
    (fun g u hg => by obtain ⟨d, k, rfl, hk⟩ := hO g u hg; rw [lv_at]; exact hk)

theorem owed_above {c : Dev nD} {n n' : ℕ} {g : GSem nD τ sig} {u : Unit} (h : 0 < (owedCred c n + owedRecv c n') g u) :
    ∃ d k, g = kcell (d, k) ∧ 1 < lvAt k := by
  rcases add_pos_or h with h | h
  · obtain ⟨j, rfl⟩ := owedCred_pos h; exact ⟨j, some (0, c), rfl, by show 1 < 2; decide⟩
  · obtain ⟨j, rfl⟩ := owedRecv_pos h; exact ⟨j, some (2, c), rfl, by show 1 < 3; decide⟩

theorem mayWait_bar (c : Dev nD) : (levAts L lv : sProp 𝕄) ⊢ MayWait (c : Thread nD τ) (.reg barS) () (owedCred c 0 + owedRecv c 0) :=
  mayWait_below c _ 1 (lv_at c none ()) _ fun g u h => owed_above h
theorem mayWait_cred (c j : Dev nD) (n : ℕ) : (levAts L lv : sProp 𝕄) ⊢ MayWait (c : Thread nD τ) (.reg (credS j)) () (owedRecv c n) :=
  mayWait_below c _ 2 (lv_at c (some (0, j)) ()) _ fun g u h => by
    obtain ⟨j, rfl⟩ := owedRecv_pos h; exact ⟨j, some (2, c), rfl, by show 2 < 3; decide⟩

/-- The staging transfers wait below everything. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine mayWait_below c _ 0 ?_ _ fun g u h => ?_
    · have : decode (.dma q : SemLoc sig) = none := dif_neg fun ⟨k, hk⟩ => by
        rcases k with _ | ⟨k, j⟩
        · cases hk
        · fin_cases k
          · cases hk
          · have := congrArg Fin.val (SemLoc.dma.inj hk)
            have e : (sendS j).val = 3 + j.val := rfl
            omega
          · have := congrArg Fin.val (SemLoc.dma.inj hk)
            have e : (recvS j).val = 19 + j.val := rfl
            omega
      show (decode (.dma q)).elim 0 lvAt = 0
      rw [this]; rfl
    · rcases add_pos_or h with h | h
      · obtain ⟨d, k, e, hk⟩ := owed_above h; exact ⟨d, k, e, by omega⟩
      · exact ⟨across c, none, tally_pos h, by decide⟩
  · rw [MayWait_zero]; iintro -; iempintro

end Cert.KernelIdeal.Talk

end
-- ==== Proof.Talk.KernelIdealSteps.lean ====
/-
# One step of each of the four passes over the peers

The kernel goes over the sixteen devices four times, leaving itself out: it gives each its credit,
copies its slot to each, waits for the copy of each, and waits for each of its own copies to be
done. What it holds between two steps of a pass is stated over the peers ahead and the peers
behind; each step moves one peer from the one to the other. A step is stated at any program that
does what the pass does, on condition that the peer is another device.
-/
module

public import proofs.«01_k».proof.Proof.Talk.KernelIdealProto

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The body's program of device `c` runs to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device may use at any time -/

/-- The levels of all cells. -/
def levs : sProp 𝕄 := levAts L lv
instance levs_persistent : BI.Persistent (levs (F := F)) := by unfold levs; infer_instance

/-- The cells' invariants, that every cell has begun, and the levels. -/
def ctx (K : Dev nD × Option Kx → ℕ) : sProp 𝕄 :=
  iprop((bigSep Finset.univ fun ck : Dev nD × Option Kx => cellInv ER (Rd m) (K ck) (kcell ck))
    ∗ (bigSep Finset.univ fun ck : Dev nD × Option Kx => reached ER (kcell ck) 0) ∗ (levs : sProp 𝕄))
instance ctx_persistent (K : Dev nD × Option Kx → ℕ) : BI.Persistent (ctx m K) := by unfold ctx; infer_instance

section Ctx
variable (K : Dev nD × Option Kx → ℕ) (ck : Dev nD × Option Kx)
omit [FloatOps F] in
theorem reached_at : (bigSep Finset.univ fun ck : Dev nD × Option Kx => (reached ER (kcell ck) 0 : sProp 𝕄)) ⊢ reached ER (kcell ck) 0 :=
  bigSep_elim (Finset.mem_univ ck)
theorem inv_at : (bigSep Finset.univ fun ck : Dev nD × Option Kx => (cellInv ER (Rd m) (K ck) (kcell ck) : sProp 𝕄))
    ⊢ cellInv ER (Rd m) (K ck) (kcell ck) :=
  bigSep_elim (Finset.mem_univ ck)
theorem ctx_inv : ctx m K ⊢ cellInv ER (Rd m) (K ck) (kcell ck) := by
  unfold ctx; iintro ⟨#H, -, -⟩; iapply (inv_at m K ck); iexact H
theorem ctx_reached : ctx m K ⊢ reached ER (kcell ck) 0 := by
  unfold ctx; iintro ⟨-, #H, -⟩; iapply (reached_at ck); iexact H
end Ctx
theorem ctx_mayWait_none (K : Dev nD × Option Kx → ℕ) (c : Dev nD) (sm : SemLoc sig) : ctx m K ⊢ MayWait (c : Thread nD τ) sm () 0 := by
  rw [MayWait_zero]; iintro -; iempintro
theorem ctx_mayWait_bar (K : Dev nD × Option Kx → ℕ) (c : Dev nD) : ctx m K ⊢ MayWait (c : Thread nD τ) (.reg barS) () (owedCred c 0 + owedRecv c 0) := by
  unfold ctx levs; iintro ⟨-, -, #H⟩; iapply (mayWait_bar c); iexact H
theorem ctx_mayWait_cred (K : Dev nD × Option Kx → ℕ) (c j : Dev nD) (n : ℕ) :
    ctx m K ⊢ MayWait (c : Thread nD τ) (.reg (credS j)) () (owedRecv c n) := by
  unfold ctx levs; iintro ⟨-, -, #H⟩; iapply (mayWait_cred c j n); iexact H

/-! ## What a device holds within a pass -/

/-- Giving credits: to each peer ahead the right to signal it, and its slot of this inbox. -/
def sigSt (c : Dev nD) (n : ℕ) : sProp 𝕄 :=
  iprop((∃ W, owes (c : Thread nD τ) (owedCred c n + owedRecv c 0) W)
    ∗ bigSep (ahead c n) fun j => iprop(dutyTok ER (credCell j c) 0 () ∗ ∃ f, slotPts c j fullShare f))

/-- Copying: for each peer ahead the wait for its credit, the rights to count on both semaphores of
    the copy, and the part of this device's own slot the copy is to read. -/
def sendSt (c : Dev nD) (n : ℕ) : sProp 𝕄 :=
  iprop((∃ W, owes (c : Thread nD τ) (owedRecv c n) W)
    ∗ (bigSep (ahead c n) fun j => iprop(cred (tallyAt (credCell c j) () 1) ∗ atPos ER (credCell c j) 0 ∅ 0
        ∗ dutyTok ER (sendCell c j) 0 () ∗ dutyTok ER (recvCell j c) 0 () ∗ slotPts c c (leaf 4 fullShare j) (inbox m)))
    ∗ bigSep (behind c n) fun j => iprop(atPos ER (credCell c j) 1 ∅ 0 ∗ cred (tallyAt (sendCell c j) () N)))

/-- Receiving: the waits for the peers ahead, the filled slots of those behind. -/
def recvSt (c : Dev nD) (n : ℕ) : sProp 𝕄 :=
  iprop((∃ W, owes (c : Thread nD τ) 0 W)
    ∗ (bigSep (ahead c n) fun j => iprop(cred (tallyAt (recvCell c j) () N) ∗ atPos ER (recvCell c j) 0 ∅ 0))
    ∗ bigSep (behind c n) fun j => iprop(atPos ER (recvCell c j) 1 ∅ 0 ∗ slotPts c j fullShare (inbox m)))

/-- Waiting for the copies sent: the waits ahead, the parts of the own slot given back by those behind. -/
def doneSt (c : Dev nD) (n : ℕ) : sProp 𝕄 :=
  iprop((∃ W, owes (c : Thread nD τ) 0 W)
    ∗ (bigSep (ahead c n) fun j => iprop(cred (tallyAt (sendCell c j) () N) ∗ atPos ER (sendCell c j) 0 ∅ 0))
    ∗ bigSep (behind c n) fun j => iprop(atPos ER (sendCell c j) 1 ∅ 0 ∗ slotPts c c (leaf 4 fullShare j) (inbox m)))

/-! ## The steps -/

theorem duty_mem {c : Dev nD} {k : Option Kx} (h : dutiesAt c k = {()}) : () ∈ (Rd (F := F) m).duties (kcell (c, k)) 0 := by
  rw [duties_at, h]; exact Finset.mem_singleton_self _
theorem to_payload (c : Dev nD) (k : Option Kx) : payAt m c k ⊢ (Rd (F := F) m).payload (kcell (c, k)) 0 () :=
  Entails.of_eq (payload_at m c k ()).symm
section Steps
variable (K : Dev nD × Option Kx → ℕ) (c n : Dev nD)
variable {cond : BitVec 1} {α : Type} {Q : α → sProp (MT nD τ sig Unit (Elt F) ℕ UU ℕ)} {k : Prog (TpuEff nD τ sig (Elt F) Λ₀ .tc) α}
variable {R : sProp (MT nD τ sig Unit (Elt F) ℕ UU ℕ)}

theorem signal_one {dev : Dev nD} {sem : Sem sig} (hn : n ≠ c) (hd : dev = n) (hs : sem = credS c)
    (hk : iprop(ctx m K ∗ sigSt c (n.val + 1) ∗ R) ⊢ WP c k Q) :
    iprop(ctx m K ∗ sigSt c n.val ∗ R) ⊢ WP c (.op (.semSignal (dev, .tc) sem (1#32).toInt) fun _ => k) Q := by
  subst hd hs
  unfold sigSt
  rw [owedCred_step hn, sep_ahead _ hn]
  iintro ⟨#Hctx, ⟨⟨%W, HO⟩, ⟨Ht, Hs⟩, Hrest⟩, HR⟩
  iapply (Rounds.wp_signal 𝒱₀ ER (Rd m) (c : Thread nD τ) none (dst := (dev : Thread nD τ)) (κ := K (dev, some (0, c))) (r := 0) (d := ())
    (duty_mem m (dutiesAt_peer dev c 0 (Ne.symm hn)))
    (amount_at m dev (some (0, c)) ()) () (owedCred c (dev.val + 1) + owedRecv c 0) (by rw [add_right_comm])) $$ [HO Ht Hs]
  · isplitr; · iapply (ctx_inv m K (dev, some (0, c))); iexact Hctx
    isplitl [HO]; · iexact HO
    isplitl [Ht]; · iexact Ht
    isplitl [Hs]
    · iapply (show iprop(∃ f, slotPts c dev fullShare f) ⊢ (Rd m).payload ((dev : Thread nD τ), .reg (credS c)) 0 () from to_payload m dev (some (0, c))); iexact Hs
    · iapply (ctx_reached m K (dev, some (0, c))); iexact Hctx
  iintro HO
  iapply hk
  isplitr; · iexact Hctx
  isplitl [HO Hrest]
  · unfold sigSt
    isplitl [HO]; · iexists W; iexact HO
    iexact Hrest
  iexact HR

theorem sig_step (hc : cond = 1#1 ↔ n ≠ c) {dev : cond = 1#1 → Dev nD} {sem : cond = 1#1 → Sem sig} (hd : ∀ h, dev h = n) (hs : ∀ h, sem h = credS c)
    (hk : iprop(ctx m K ∗ sigSt c (n.val + 1) ∗ R) ⊢ WP c k Q) :
    iprop(ctx m K ∗ sigSt c n.val ∗ R)
      ⊢ WP c (if h : cond = 1#1 then .op (.semSignal (dev h, .tc) (sem h) (1#32).toInt) fun _ => k else k) Q := by
  by_cases h : cond = 1#1
  · rw [dif_pos h]; exact signal_one m K c n (hc.mp h) (hd h) (hs h) hk
  · have hn : n = c := by by_contra hn; exact h (hc.mpr hn)
    subst hn
    rw [dif_neg h]
    unfold sigSt owedCred at hk ⊢
    rw [ahead_self]; exact hk

/-- A wait for the one unit or copy of a cell of this device: it brings the payload. -/
theorem wait_one {w : TpuEff nD τ sig (Elt F) Λ₀ .tc PUnit} (kx : Option Kx) {a : ℕ} (ha : amountAt kx = a) {O : CellTallies nD τ sig Unit}
    (hw : ∀ Kp : PUnit → sProp 𝕄, wpE (defs₀ (F := F)) 𝒱₀ (c : Thread nD τ) none Set.univ w Kp = waitSpec (c : Thread nD τ) Set.univ (csem kx) a Kp)
    (hduty : dutiesAt c kx = {()}) (hmay : ctx m K ⊢ MayWait (c : Thread nD τ) (csem kx) () O)
    (hk : iprop(ctx m K ∗ ((∃ W, owes (c : Thread nD τ) O W) ∗ atPos ER (kcell (c, kx)) 1 ∅ 0 ∗ payAt m c kx) ∗ R) ⊢ WP c k Q) :
    iprop(ctx m K ∗ ((∃ W, owes (c : Thread nD τ) O W) ∗ cred (tallyAt (kcell (c, kx)) () a) ∗ atPos ER (kcell (c, kx)) 0 ∅ 0) ∗ R)
      ⊢ WP c (.op w fun _ => k) Q := by
  subst ha
  iintro ⟨#Hctx, ⟨⟨%W, HO⟩, Hc, Hp⟩, HR⟩
  iapply (Rounds.wp_wait_rest_token 𝒱₀ ER (Rd m) (c : Thread nD τ) none (κ := K (c, kx)) (sm := csem kx) (k' := amountAt kx) hw (Set.mem_univ _) () (O := O) (W := W)
    (R := 0) (m := 0) (T := ∅) ((Nat.zero_add _).trans (expect_at m hduty).symm)) $$ [HO Hc Hp]
  · isplitr; · iapply (ctx_inv m K (c, kx)); iexact Hctx
    isplitl [Hc]; · iexact Hc
    isplitl [HO]; · iexact HO
    isplitr; · iapply hmay; iexact Hctx
    iexact Hp
  iintro ⟨HO, Hp, -, Hpay⟩
  iapply hk
  isplitr; · iexact Hctx
  isplitl [HO Hp Hpay]
  · isplitl [HO]; · iexists _; iexact HO
    isplitl [Hp]; · iexact Hp
    iapply (Entails.of_eq (rest_at m hduty)); iexact Hpay
  iexact HR

theorem recv_step (hc : cond = 1#1 ↔ n ≠ c) {w : cond = 1#1 → TpuEff nD τ sig (Elt F) Λ₀ .tc PUnit}
    (hw : ∀ (h : cond = 1#1) (Kp : PUnit → sProp 𝕄), wpE (defs₀ (F := F)) 𝒱₀ (c : Thread nD τ) none Set.univ (w h) Kp
      = waitSpec (c : Thread nD τ) Set.univ (.dma (recvS n)) N Kp)
    (hk : iprop(ctx m K ∗ recvSt m c (n.val + 1) ∗ R) ⊢ WP c k Q) :
    iprop(ctx m K ∗ recvSt m c n.val ∗ R) ⊢ WP c (if h : cond = 1#1 then .op (w h) fun _ => k else k) Q := by
  by_cases h : cond = 1#1
  · have hn := hc.mp h
    rw [dif_pos h]
    unfold recvSt
    rw [sep_ahead _ hn]
    refine BIBase.Entails.trans ?_ (wait_one m K c (some (2, n)) rfl (hw h) (dutiesAt_peer _ _ _ hn) (ctx_mayWait_none m K c _)
      (R := iprop((bigSep (ahead c (n.val + 1)) fun j => iprop(cred (tallyAt (recvCell c j) () N) ∗ atPos ER (recvCell c j) 0 ∅ 0))
        ∗ (bigSep (behind c n.val) fun j => iprop(atPos ER (recvCell c j) 1 ∅ 0 ∗ slotPts c j fullShare (inbox m))) ∗ R)) ?_)
    · iintro ⟨#Hctx, ⟨HO, ⟨H1, Hrest⟩, Hb⟩, HR⟩
      isplitr; · iexact Hctx
      isplitl [HO H1]; · isplitl [HO]; · iexact HO
                         iexact H1
      isplitl [Hrest]; · iexact Hrest
      isplitl [Hb]; · iexact Hb
      iexact HR
    · refine BIBase.Entails.trans ?_ hk
      unfold recvSt
      rw [sep_behind _ hn]
      iintro ⟨#Hctx, ⟨HO, H1⟩, Hrest, Hb, HR⟩
      isplitr; · iexact Hctx
      isplitl [HO H1 Hrest Hb]
      · isplitl [HO]; · iexact HO
        isplitl [Hrest]; · iexact Hrest
        isplitl [H1]; · iexact H1
        iexact Hb
      iexact HR
  · have hn : n = c := by by_contra hn; exact h (hc.mpr hn)
    subst hn
    rw [dif_neg h]
    unfold recvSt at hk ⊢
    rw [ahead_self, behind_self] at *; exact hk

theorem done_step (hc : cond = 1#1 ↔ n ≠ c) {w : cond = 1#1 → TpuEff nD τ sig (Elt F) Λ₀ .tc PUnit}
    (hw : ∀ (h : cond = 1#1) (Kp : PUnit → sProp 𝕄), wpE (defs₀ (F := F)) 𝒱₀ (c : Thread nD τ) none Set.univ (w h) Kp
      = waitSpec (c : Thread nD τ) Set.univ (.dma (sendS n)) N Kp)
    (hk : iprop(ctx m K ∗ doneSt m c (n.val + 1) ∗ R) ⊢ WP c k Q) :
    iprop(ctx m K ∗ doneSt m c n.val ∗ R) ⊢ WP c (if h : cond = 1#1 then .op (w h) fun _ => k else k) Q := by
  by_cases h : cond = 1#1
  · have hn := hc.mp h
    rw [dif_pos h]
    unfold doneSt
    rw [sep_ahead _ hn]
    refine BIBase.Entails.trans ?_ (wait_one m K c (some (1, n)) rfl (hw h) (dutiesAt_peer _ _ _ hn) (ctx_mayWait_none m K c _)
      (R := iprop((bigSep (ahead c (n.val + 1)) fun j => iprop(cred (tallyAt (sendCell c j) () N) ∗ atPos ER (sendCell c j) 0 ∅ 0))
        ∗ (bigSep (behind c n.val) fun j => iprop(atPos ER (sendCell c j) 1 ∅ 0 ∗ slotPts c c (leaf 4 fullShare j) (inbox m))) ∗ R)) ?_)
    · iintro ⟨#Hctx, ⟨HO, ⟨H1, Hrest⟩, Hb⟩, HR⟩
      isplitr; · iexact Hctx
      isplitl [HO H1]; · isplitl [HO]; · iexact HO
                         iexact H1
      isplitl [Hrest]; · iexact Hrest
      isplitl [Hb]; · iexact Hb
      iexact HR
    · refine BIBase.Entails.trans ?_ hk
      unfold doneSt
      rw [sep_behind _ hn]
      iintro ⟨#Hctx, ⟨HO, H1⟩, Hrest, Hb, HR⟩
      isplitr; · iexact Hctx
      isplitl [HO H1 Hrest Hb]
      · isplitl [HO]; · iexact HO
        isplitl [Hrest]; · iexact Hrest
        isplitl [H1]; · iexact H1
        iexact Hb
      iexact HR
  · have hn : n = c := by by_contra hn; exact h (hc.mpr hn)
    subst hn
    rw [dif_neg h]
    unfold doneSt at hk ⊢
    rw [ahead_self, behind_self] at *; exact hk

/-- The copy of the own slot to device `n`: it spends what it owed to `n`, and is to be waited for. -/
theorem copy_one {dev : Dev nD} {ss rs : DmaSem sig} {src dst : Memref sig .tc .vmem S2x2048 .f32}
    {hsc : dst.view.ref.isScScratch = false} {hsrc : src.view.WordExact} {hdst : dst.view.WordExact}
    {hsem : DmaTarget.Typed .vmem (.dma rs) (.remote (Dev.tc dev) dst (.dma ss) hsc)}
    (hn : n ≠ c) (hd : dev = n) (hss : ss = sendS n) (hrs : rs = recvS c) (hms : src = slotM c) (hmd : dst = slotM c)
    {f : Buf (Elt F) ((n : Thread nD τ).loc cc0_scratch0)}
    (hk : iprop(ctx m K ∗ ((∃ W, owes (c : Thread nD τ) (owedRecv c (n.val + 1)) W) ∗ cred (tallyAt (sendCell c n) () N)) ∗ R) ⊢ WP c k Q) :
    iprop(ctx m K ∗ ((∃ W, owes (c : Thread nD τ) (owedRecv c n.val) W) ∗ dutyTok ER (sendCell c n) 0 () ∗ dutyTok ER (recvCell n c) 0 ()
        ∗ slotPts c c (leaf 4 fullShare n) (inbox m) ∗ slotPts n c fullShare f) ∗ R)
      ⊢ WP c (.op (.enqueueDma src (.remote (Dev.tc dev) dst (.dma ss) hsc) (.dma rs) hsrc hdst hsem) fun _ => k) Q := by
  subst hd hss hrs hms hmd
  have h1 : (Rd (F := F) m).amount ((c : Thread nD τ), .dma (sendS dev)) 0 () = N := amount_at m c (some (1, dev)) ()
  have h2 : (Rd (F := F) m).amount ((dev : Thread nD τ), .dma (recvS c)) 0 () = N := amount_at m dev (some (2, c)) ()
  have h3 : (slotM c).view.amount (.dma (recvS c)) = N := N_eq c
  have h4 : () ∈ (Rd (F := F) m).duties ((c : Thread nD τ), .dma (sendS dev)) 0 := duty_mem m (k := some (1, dev)) (dutiesAt_peer c dev 1 hn)
  have h5 : () ∈ (Rd (F := F) m).duties ((dev : Thread nD τ), .dma (recvS c)) 0 := duty_mem m (k := some (2, c)) (dutiesAt_peer dev c 2 (Ne.symm hn))
  have h6 : ((slotM c).view.loc (c : Thread nD τ) ↦[(slotM c).view.set]{leaf 4 fullShare dev} inbox m)
      ⊢ (Rd (F := F) m).payload ((c : Thread nD τ), .dma (sendS dev)) 0 () := by
    rw [slotM_set]; exact to_payload m c (some (1, dev))
  have h7 : ((slotM c).view.loc (dev : Thread nD τ) ↦[(slotM c).view.set]{fullShare}
        ((slotM c).view.write (Elt F) f ((slotM c).view.read (Elt F) (inbox m)) Finset.univ))
      ⊢ (Rd (F := F) m).payload ((dev : Thread nD τ), .dma (recvS c)) 0 () := by
    rw [pointsTo_congr (fun i hi => copied_slot m c f i hi), slotM_set]; exact to_payload m dev (some (2, c))
  iintro ⟨#Hctx, ⟨⟨%W, HO⟩, Hts, Htr, Hsrc, Hdst⟩, HR⟩
  iapply (Rounds.wp_send_pointsTo 𝒱₀ ER (Rd m) (c : Thread nD τ) none (κ₁ := K (c, some (1, dev))) (κ₂ := K (dev, some (2, c)))
    (c' := (dev : Thread nD τ)) (src := slotM c) (dst := slotM c) (sS := .dma (sendS dev)) (sem := .dma (recvS c))
    (q := leaf 4 fullShare dev) (fs := inbox m) (fd := f) (r₁ := 0) (r₂ := 0) (d₁ := ()) (d₂ := ())
    h4 h5 () () N h3 h1 h2 (owedRecv c (dev.val + 1)) (owedRecv_step hn) (W := W) h6 h7) $$ [HO Hts Htr Hsrc Hdst]
  · isplitr; · iapply (ctx_inv m K (c, some (1, dev))); iexact Hctx
    isplitr; · iapply (ctx_inv m K (dev, some (2, c))); iexact Hctx
    isplitl [Hsrc]; · unfold slotPts; rw [slotM_set]; iexact Hsrc
    isplitl [Hdst]; · unfold slotPts; rw [slotM_set]; iexact Hdst
    isplitl [HO]; · iexact HO
    isplitl [Hts]; · iexact Hts
    isplitr; · iapply (ctx_reached m K (c, some (1, dev))); iexact Hctx
    isplitl [Htr]; · iexact Htr
    iapply (ctx_reached m K (dev, some (2, c))); iexact Hctx
  iintro ⟨Hc, HO⟩
  iapply hk
  isplitr; · iexact Hctx
  isplitl [HO Hc]
  · isplitl [HO]; · iexists W; iexact HO
    iexact Hc
  iexact HR

theorem send_step (hc : cond = 1#1 ↔ n ≠ c) {dev : cond = 1#1 → Dev nD} {cs : cond = 1#1 → Sem sig} {ss rs : cond = 1#1 → DmaSem sig}
    {src dst : cond = 1#1 → Memref sig .tc .vmem S2x2048 .f32}
    {hsc : ∀ h, (dst h).view.ref.isScScratch = false} {hsrc : ∀ h, (src h).view.WordExact} {hdst : ∀ h, (dst h).view.WordExact}
    {hsem : ∀ h, DmaTarget.Typed .vmem (.dma (rs h)) (.remote (Dev.tc (dev h)) (dst h) (.dma (ss h)) (hsc h))}
    (hd : ∀ h, dev h = n) (hcs : ∀ h, cs h = credS n) (hss : ∀ h, ss h = sendS n) (hrs : ∀ h, rs h = recvS c)
    (hms : ∀ h, src h = slotM c) (hmd : ∀ h, dst h = slotM c)
    (hk : iprop(ctx m K ∗ sendSt m c (n.val + 1) ∗ R) ⊢ WP c k Q) :
    iprop(ctx m K ∗ sendSt m c n.val ∗ R)
      ⊢ WP c (if h : cond = 1#1 then .op (.semWait (cs h) (1#32).toNat) fun _ =>
          .op (.enqueueDma (src h) (.remote (Dev.tc (dev h)) (dst h) (.dma (ss h)) (hsc h)) (.dma (rs h)) (hsrc h) (hdst h) (hsem h)) fun _ => k
        else k) Q := by
  by_cases h : cond = 1#1
  · have hn := hc.mp h
    rw [dif_pos h, hcs h]
    unfold sendSt
    rw [sep_ahead _ hn]
    refine BIBase.Entails.trans ?_ (wait_one m K c (some (0, n)) rfl (fun Kp => wpE_semWait_eq (defs := defs₀) (𝒱 := 𝒱₀) (c := (c : Thread nD τ)) (bd := none) (E := Set.univ) Kp) (dutiesAt_peer _ _ _ hn)
      (ctx_mayWait_cred m K c n n.val)
      (R := iprop((dutyTok ER (sendCell c n) 0 () ∗ dutyTok ER (recvCell n c) 0 () ∗ slotPts c c (leaf 4 fullShare n) (inbox m))
        ∗ (bigSep (ahead c (n.val + 1)) fun j => iprop(cred (tallyAt (credCell c j) () 1) ∗ atPos ER (credCell c j) 0 ∅ 0
          ∗ dutyTok ER (sendCell c j) 0 () ∗ dutyTok ER (recvCell j c) 0 () ∗ slotPts c c (leaf 4 fullShare j) (inbox m)))
        ∗ (bigSep (behind c n.val) fun j => iprop(atPos ER (credCell c j) 1 ∅ 0 ∗ cred (tallyAt (sendCell c j) () N))) ∗ R)) ?_)
    · iintro ⟨#Hctx, ⟨HO, ⟨⟨H1, H2, Hts, Htr, Hs⟩, Hrest⟩, Hb⟩, HR⟩
      isplitr; · iexact Hctx
      isplitl [HO H1 H2]
      · isplitl [HO]; · iexact HO
        isplitl [H1]; · iexact H1
        iexact H2
      isplitl [Hts Htr Hs]
      · isplitl [Hts]; · iexact Hts
        isplitl [Htr]; · iexact Htr
        iexact Hs
      isplitl [Hrest]; · iexact Hrest
      isplitl [Hb]; · iexact Hb
      iexact HR
    · iintro ⟨#Hctx, ⟨HO, Hp, Hpay⟩, ⟨Hts, Htr, Hs⟩, Hrest, Hb, HR⟩
      ihave Hpay := (show payAt m c (some (0, n)) ⊢ (iprop(∃ f, slotPts n c fullShare f) : sProp 𝕄) from .rfl) $$ Hpay
      icases Hpay with ⟨%f, Hdst⟩
      iapply (copy_one m K c n (Q := Q) (k := k) (f := f)
        (R := iprop(atPos ER (credCell c n) 1 ∅ 0
        ∗ (bigSep (ahead c (n.val + 1)) fun j => iprop(cred (tallyAt (credCell c j) () 1) ∗ atPos ER (credCell c j) 0 ∅ 0
          ∗ dutyTok ER (sendCell c j) 0 () ∗ dutyTok ER (recvCell j c) 0 () ∗ slotPts c c (leaf 4 fullShare j) (inbox m)))
        ∗ (bigSep (behind c n.val) fun j => iprop(atPos ER (credCell c j) 1 ∅ 0 ∗ cred (tallyAt (sendCell c j) () N))) ∗ R))
        hn (hd h) (hss h) (hrs h) (hms h) (hmd h) (by
          refine BIBase.Entails.trans ?_ hk
          unfold sendSt
          rw [sep_behind _ hn]
          iintro ⟨#Hctx, ⟨HO, Hc⟩, Hp, Hrest, Hb, HR⟩
          isplitr; · iexact Hctx
          isplitl [HO Hc Hp Hrest Hb]
          · isplitl [HO]; · iexact HO
            isplitl [Hrest]; · iexact Hrest
            isplitl [Hp Hc]
            · isplitl [Hp]; · iexact Hp
              iexact Hc
            iexact Hb
          iexact HR))
      isplitr; · iexact Hctx
      isplitl [HO Hts Htr Hs Hdst]
      · isplitl [HO]; · iexact HO
        isplitl [Hts]; · iexact Hts
        isplitl [Htr]; · iexact Htr
        isplitl [Hs]; · iexact Hs
        iexact Hdst
      isplitl [Hp]; · iexact Hp
      isplitl [Hrest]; · iexact Hrest
      isplitl [Hb]; · iexact Hb
      iexact HR
  · have hn : n = c := by by_contra hn; exact h (hc.mpr hn)
    subst hn
    rw [dif_neg h]
    unfold sendSt owedRecv at hk ⊢
    rw [ahead_self, behind_self] at *; exact hk

end Steps

end Cert.KernelIdeal.Talk

end
-- ==== Proof.Talk.KernelIdealPrinted.lean ====
/-
# The parts of the body

The generated body is printed in eight parts. Each part here is a run of steps of one or two passes;
what the printed conditions, device numbers and offsets come to at a device is stated first.
-/
module

public import proofs.«01_k».proof.Proof.Talk.KernelIdealSteps

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

/-! ## The printed semaphores, slots and conditions -/

theorem place (c : Dev nD) : 8 * (c.val / 8) + 4 * ((c.val / 4) % 2) + c.val % 4 = c.val := by omega
theorem place1 {c : Dev nD} {o : Fin 1 → ℕ} (h : o = ![8 * (c.val / 8) + 4 * ((c.val / 4) % 2) + c.val % 4]) : o = ![c.val] := by rw [h, place]
theorem place3 {c : Dev nD} {o : Fin 3 → ℕ} (h : o = ![8 * (c.val / 8) + 4 * ((c.val / 4) % 2) + c.val % 4, 0, 0]) : o = ![c.val, 0, 0] := by rw [h, place]

theorem cred_sem {o : Fin 1 → ℕ} {inb} (j : Dev nD) (h : o = ![j.val]) :
    ((cc0_scratch3.slice (Rect.unit (s := S16) o S1.size inb)).squeeze S_ squeezes_S1_S_).sem = credS j := by
  subst h; revert j; decide +kernel
theorem send_sem {o : Fin 1 → ℕ} {inb} (j : Dev nD) (h : o = ![j.val]) :
    ((cc0_scratch1.slice (Rect.unit (s := S16) o S1.size inb)).squeeze S_ squeezes_S1_S_).sem = sendS j := by
  subst h; revert j; decide +kernel
theorem recv_sem {o : Fin 1 → ℕ} {inb} (j : Dev nD) (h : o = ![j.val]) :
    ((cc0_scratch2.slice (Rect.unit (s := S16) o S1.size inb)).squeeze S_ squeezes_S1_S_).sem = recvS j := by
  subst h; revert j; decide +kernel
theorem slot_ref {o : Fin 3 → ℕ} {inb} {hu} (j : Dev nD) (h : o = ![j.val, 0, 0]) :
    (((Memref.whole cc0_scratch0).slice (Rect.unit (s := S16x2x2048) o S1x2x2048.size inb) hu).squeeze S2x2048 squeezes_S1x2x2048_S2x2048) = slotM j := by
  subst h; rfl

theorem slot_rect {o : Fin 3 → ℕ} (c : Dev nD) {inb} (h : o = ![8 * (c.val / 8) + 4 * ((c.val / 4) % 2) + c.val % 4, 0, 0]) :
    Rect.unit (s := S16x2x2048) o S1x2x2048.size inb = slotR c := by
  have h' := place3 h; subst h'; rfl

/-- The device's own number, as the body computes it. -/
abbrev num (c : Dev nD) : BitVec 32 := BitVec.ofNat 32 c.val

/-- The end of a part. -/
theorem ret_step (c : Dev nD) {α : Type} {v : α} {Q : α → sProp 𝕄} {P : sProp 𝕄} (h : P ⊢ Q v) : P ⊢ WP c (.ret v) Q := by
  unfold WP; rw [wp_ret]; iintro H; imodintro; iapply h; iexact H

/-- A printed wait for a copy of one slot. -/
theorem wait_clause (c j : Dev nD) {q sem : DmaSem sig} {s d : Memref sig .tc .vmem S2x2048 .f32} {hs : s.view.WordExact} {hd : d.view.WordExact}
    (hq : sem = q) (hj : d = slotM j) (Kp : PUnit → sProp 𝕄) :
    wpE (defs₀ (F := F)) 𝒱₀ (c : Thread nD τ) none Set.univ (.waitDma2 sem s d hs hd) Kp = waitSpec (c : Thread nD τ) Set.univ (.dma q) N Kp := by
  subst hq hj; rfl

section Parts
variable (K : Dev nD × Option Kx → ℕ) (c : Dev nD)
variable {R : sProp (MT nD τ sig Unit (Elt F) ℕ UU ℕ)}

/-- The input windows of the one step, whole, at their staging buffers. -/
abbrev stage0 (f : (cc0_stg0_0 : Ref sig .tc).ty.Contents (Elt F)) : sProp 𝕄 := ((c : Thread nD τ).loc cc0_stg0_0) ↦{fullShare} (f : Buf (Elt F) ((c : Thread nD τ).loc cc0_stg0_0))
abbrev stage1 (f : (cc0_stg1_0 : Ref sig .tc).ty.Contents (Elt F)) : sProp 𝕄 := ((c : Thread nD τ).loc cc0_stg1_0) ↦{fullShare} (f : Buf (Elt F) ((c : Thread nD τ).loc cc0_stg1_0))
abbrev stage2 (f : (cc0_stg2_0 : Ref sig .tc).ty.Contents (Elt F)) : sProp 𝕄 := ((c : Thread nD τ).loc cc0_stg2_0) ↦{fullShare} (f : Buf (Elt F) ((c : Thread nD τ).loc cc0_stg2_0))

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

/-- What one copy takes besides the slot. -/
abbrev toSend (j : Dev nD) : sProp 𝕄 := iprop(cred (tallyAt (credCell c j) () 1) ∗ atPos ER (credCell c j) 0 ∅ 0
  ∗ dutyTok ER (sendCell c j) 0 () ∗ dutyTok ER (recvCell j c) 0 ())
abbrev ownPart (j : Dev nD) : sProp 𝕄 := slotPts c c (leaf 4 fullShare j) (inbox m)

/-- What receiving one slot takes, and what the copies leave behind. -/
abbrev toRecv (j : Dev nD) : sProp 𝕄 := iprop(cred (tallyAt (recvCell c j) () N) ∗ atPos ER (recvCell c j) 0 ∅ 0)
abbrev sent (j : Dev nD) : sProp 𝕄 := iprop(atPos ER (credCell c j) 1 ∅ 0 ∗ cred (tallyAt (sendCell c j) () N))

end Parts

end Cert.KernelIdeal.Talk

end
-- ==== Proof.Talk.KernelIdealMoves.lean ====
/-
# Between the passes
-/
module

public import proofs.«01_k».proof.Proof.Talk.KernelIdealPrinted

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

section Parts
variable (K : Dev nD × Option Kx → ℕ) (c : Dev nD)
variable {R : sProp (MT nD τ sig Unit (Elt F) ℕ UU ℕ)}

/-- The own slot, written, is cut into its parts: the copies may begin. -/
theorem send_start :
    iprop((∃ W, owes (c : Thread nD τ) (owedRecv c 0) W) ∗ slotPts c c fullShare (inbox m) ∗ bigSep (ahead c 0) (toSend c))
      ⊢ iprop(sendSt m c 0 ∗ ownPart m c c) := by
  rw [slot_parts c c (inbox m), sep_peers _ c]
  iintro ⟨HO, ⟨Hc, Hs⟩, Ht⟩
  isplitr [Hc]
  · unfold sendSt
    isplitl [HO]; · iexact HO
    isplitl [Hs Ht]
    · iapply (show iprop(bigSep (ahead c 0) (toSend c) ∗ bigSep (ahead c 0) (ownPart m c)) ⊢ _ from by
        rw [← bigSep_sep']; exact bigSep_mono fun j _ => by
          show iprop(toSend c j ∗ ownPart m c j) ⊢ iprop(cred (tallyAt (credCell c j) () 1) ∗ atPos ER (credCell c j) 0 ∅ 0
            ∗ dutyTok ER (sendCell c j) 0 () ∗ dutyTok ER (recvCell j c) 0 () ∗ slotPts c c (leaf 4 fullShare j) (inbox m))
          iintro ⟨⟨H1, H2, H3, H4⟩, H5⟩
          isplitl [H1]; · iexact H1
          isplitl [H2]; · iexact H2
          isplitl [H3]; · iexact H3
          isplitl [H4]; · iexact H4
          iexact H5)
      isplitl [Ht]; · iexact Ht
      iexact Hs
    rw [behind_zero, bigSep_empty]; iempintro
  iexact Hc

omit [FloatOps F] in
theorem slot_sub : ((Memref.whole cc0_scratch0).access (slotR c) : View sig .tc _ _ _).set ⊆ slotSet c := by
  show ((View.whole cc0_scratch0 : View sig .tc _ _ _).slice (slotR c)).set ⊆ slotSet c
  rw [View.set_slice_whole]

theorem own_written (f : (cc0_scratch0 : Ref sig .tc).ty.Contents (Elt F)) :
    (((c : Thread nD τ).loc cc0_scratch0 ↦[slotSet c]{fullShare}
      (((Memref.whole cc0_scratch0).access (slotR c) : View sig .tc _ _ _).write (Elt F) f (partials m c) Finset.univ : Buf (Elt F) ((c : Thread nD τ).loc cc0_scratch0))) : sProp 𝕄)
      ⊢ slotPts c c fullShare (inbox m) :=
  Entails.of_eq (pointsTo_congr (fun i hi => own_slot m c f i hi))

theorem own_store {α : Type} {Q : α → sProp (MT nD τ sig Unit (Elt F) ℕ UU ℕ)} {k : Prog (TpuEff nD τ sig (Elt F) Λ₀ .tc) α}
    (f : Buf (Elt F) ((c : Thread nD τ).loc cc0_scratch0)) (w : S1x2x2048.Idx → Elt F .f32) {hs hb} :
    slotPts c c fullShare f
      ⊢ iprop((((c : Thread nD τ).loc cc0_scratch0 ↦[slotSet c]{fullShare}
          (((Memref.whole cc0_scratch0).access (slotR c) : View sig .tc _ _ _).write (Elt F) f w Finset.univ : Buf (Elt F) ((c : Thread nD τ).loc cc0_scratch0))) -∗ WP c k Q)
        -∗ WP c (.op (.store (Memref.whole cc0_scratch0) (slotR c) w Finset.univ hs hb) fun _ => k) Q) := by
  unfold slotPts
  iintro Hs Hk
  iapply (wp_store 𝒱₀ (c : Thread nD τ) none Set.univ (m := Memref.whole cc0_scratch0) (r := slotR c) (w := w) (Mk := Finset.univ) (slot_sub c)) $$ Hs
  iexact Hk

theorem own_load {α : Type} {Q : α → sProp (MT nD τ sig Unit (Elt F) ℕ UU ℕ)} {k : Prog (TpuEff nD τ sig (Elt F) Λ₀ .tc) α}
    (f : Buf (Elt F) ((c : Thread nD τ).loc cc0_scratch0)) {hl} :
    slotPts c c fullShare f
      ⊢ iprop((slotPts c c fullShare f -∗ WP c k Q)
        -∗ WP c (.op (.load (Memref.whole cc0_scratch0) (slotR c).toLoadRect hl) fun _ => k) Q) := by
  unfold slotPts
  iintro Hs Hk
  iapply (wp_load_rect 𝒱₀ (c : Thread nD τ) none Set.univ (m := Memref.whole cc0_scratch0) (r := slotR c) (slot_sub c)) $$ Hs
  iexact Hk

/-- This device's partial sums go in its own slot. -/
theorem own_step {α : Type} {Q : α → sProp (MT nD τ sig Unit (Elt F) ℕ UU ℕ)} {k : Prog (TpuEff nD τ sig (Elt F) Λ₀ .tc) α}
    {o : Fin 3 → ℕ} (ho : o = ![c.val, 0, 0]) {inb : ∀ a, o a + S1x2x2048.size a ≤ S16x2x2048.size a}
    {hl} {hs hb}
    (hk : iprop(ctx m K ∗ slotPts c c fullShare (inbox m) ∗ R) ⊢ WP c k Q) :
    iprop(ctx m K ∗ (∃ f, slotPts c c fullShare f) ∗ R)
      ⊢ WP c (.op (.load (Memref.whole cc0_scratch0) (Rect.unit (s := S16x2x2048) o S1x2x2048.size inb).toLoadRect hl) fun _ =>
          .op (.store (Memref.whole cc0_scratch0) (Rect.unit (s := S16x2x2048) o S1x2x2048.size inb) (partials m c) Finset.univ hs hb) fun _ => k) Q := by
  subst ho
  iintro ⟨#Hctx, ⟨%f, Hs⟩, HR⟩
  iapply (own_load c f) $$ Hs; iintro Hs
  iapply (own_store c f (partials m c)) $$ Hs; iintro Hs
  ihave Hs := (own_written m c f) $$ Hs
  iapply hk
  isplitr; · iexact Hctx
  isplitl [Hs]; · iexact Hs
  iexact HR

theorem recv_start : iprop(sendSt m c 16 ∗ bigSep (ahead c 0) (toRecv c)) ⊢ iprop(recvSt m c 0 ∗ bigSep (ahead c 0) (sent c)) := by
  unfold sendSt recvSt
  rw [owedRecv_end, behind_end, behind_zero, bigSep_empty]
  iintro ⟨⟨HO, -, Hb⟩, Hr⟩
  isplitr [Hb]
  · isplitl [HO]; · iexact HO
    isplitl [Hr]; · iexact Hr
    iempintro
  iexact Hb

/-- The slots received, but for one part of each. -/
def restParts : sProp 𝕄 := bigSep (ahead c 0) fun j => bigSep (ahead c 0) fun i => slotPts c j (leaf 4 fullShare i) (inbox m)

def wholePart : sProp 𝕄 := ((c : Thread nD τ).loc cc0_scratch0) ↦{leaf 4 fullShare c} (inbox m : Buf (Elt F) ((c : Thread nD τ).loc cc0_scratch0))

/-- One part of the own slot and all of the others hold one part of the whole inbox. -/
theorem inbox_part : iprop(ownPart m c c ∗ bigSep (ahead c 0) fun j => slotPts c j fullShare (inbox m))
    = iprop(wholePart m c ∗ restParts m c) := by
  have h : (fun j => slotPts c j fullShare (inbox m) : Dev nD → sProp 𝕄) = fun j => iprop(slotPts c j (leaf 4 fullShare c) (inbox m)
      ∗ bigSep (ahead c 0) fun i => slotPts c j (leaf 4 fullShare i) (inbox m)) := funext fun j => by rw [slot_parts c j (inbox m), sep_peers _ c]
  rw [← equiv_iff, h, bigSep_sep', wholePart, inbox_slots c (leaf 4 fullShare c) (inbox m), sep_peers _ c]
  exact ⟨BI.sep_assoc', BI.sep_assoc⟩

omit [FloatOps F] in
theorem read_inbox (f : (cc0_scratch0 : Ref sig .tc).ty.Contents (Elt F)) : (Memref.whole cc0_scratch0 : Memref sig .tc .vmem S16x2x2048 .f32).view.readAt (Elt F)
    (Rect.unit (s := S16x2x2048) ![0, 0, 0] S16x2x2048.size inb_S16x2x2048_S16x2x2048_0_0_0).toLoadRect f = f :=
  Memref.readAt_unit_zero (Elt F) cc0_scratch0 hz3 _ f
omit [FloatOps F] in
theorem write_out (f w : (cc0_stg2_0 : Ref sig .tc).ty.Contents (Elt F)) :
    ((Memref.whole cc0_stg2_0 : Memref sig .tc .vmem S2x2048 .f32).access (Rect.unit (s := S2x2048) ![0, 0] S2x2048.size inb_S2x2048_S2x2048_0_0) : View sig .tc _ _ _).write
      (Elt F) f w Finset.univ = w :=
  Memref.write_access_unit_zero_univ (Elt F) cc0_stg2_0 hz2 _ f w

/-- The whole inbox is read, at one part, and the result is written. -/
theorem out_step {α : Type} {Q : α → sProp (MT nD τ sig Unit (Elt F) ℕ UU ℕ)} {k : Prog (TpuEff nD τ sig (Elt F) Λ₀ .tc) α}
    {h3 h2} {hs hb} {f2 : (cc0_stg2_0 : Ref sig .tc).ty.Contents (Elt F)}
    (hk : iprop(ctx m K ∗ wholePart m c ∗ stage2 c (result m) ∗ R) ⊢ WP c k Q) :
    iprop(ctx m K ∗ wholePart m c ∗ stage2 c f2 ∗ R)
      ⊢ WP c (.op (.load (Memref.whole cc0_scratch0) (Rect.unit (s := S16x2x2048) ![0, 0, 0] S16x2x2048.size inb_S16x2x2048_S16x2x2048_0_0_0).toLoadRect h3) fun v =>
          .op (.load (Memref.whole cc0_stg2_0) (Rect.unit (s := S2x2048) ![0, 0] S2x2048.size inb_S2x2048_S2x2048_0_0).toLoadRect h2) fun _ =>
          .op (.store (Memref.whole cc0_stg2_0) (Rect.unit (s := S2x2048) ![0, 0] S2x2048.size inb_S2x2048_S2x2048_0_0) (k0_pay3 v) Finset.univ hs hb) fun _ => k) Q := by
  unfold wholePart at *
  iintro ⟨#Hctx, Hin, H2, HR⟩
  iapply (wp_load 𝒱₀ (c : Thread nD τ) none Set.univ (m := Memref.whole cc0_scratch0) (Finset.subset_univ _)) $$ Hin; iintro Hin
  iapply (wp_load 𝒱₀ (c : Thread nD τ) none Set.univ (m := Memref.whole cc0_stg2_0) (Finset.subset_univ _)) $$ H2; iintro H2
  iapply (wp_store 𝒱₀ (c : Thread nD τ) none Set.univ (m := Memref.whole cc0_stg2_0) (r := Rect.unit (s := S2x2048) ![0, 0] S2x2048.size inb_S2x2048_S2x2048_0_0)
    (Mk := Finset.univ) (Finset.subset_univ _)) $$ H2; iintro H2
  rw [read_inbox, write_out]
  iapply hk
  isplitr; · iexact Hctx
  isplitl [Hin]; · iexact Hin
  isplitl [H2]; · iexact H2
  iexact HR

/-- What waiting for one copy sent takes; what one receive leaves. -/
abbrev toDone (j : Dev nD) : sProp 𝕄 := iprop(cred (tallyAt (sendCell c j) () N) ∗ atPos ER (sendCell c j) 0 ∅ 0)
abbrev gotAt (j : Dev nD) : sProp 𝕄 := atPos ER (recvCell c j) 1 ∅ 0
abbrev gotten (j : Dev nD) : sProp 𝕄 := iprop(gotAt c j ∗ slotPts c j fullShare (inbox m))

/-- Before the inbox is read: one part of it is put together. -/
theorem read_open {f2 : (cc0_stg2_0 : Ref sig .tc).ty.Contents (Elt F)} :
    iprop(ctx m K ∗ recvSt m c 16 ∗ (ownPart m c c ∗ stage2 c f2 ∗ bigSep (ahead c 0) (toDone c) ∗ R))
      ⊢ iprop(ctx m K ∗ wholePart m c ∗ stage2 c f2 ∗ (restParts m c ∗ (∃ W, owes (c : Thread nD τ) 0 W) ∗ bigSep (ahead c 0) (toDone c) ∗ bigSep (ahead c 0) (gotAt c) ∗ R)) := by
  unfold recvSt
  rw [behind_end, ahead_end, bigSep_sep' (ahead c 0) (gotAt c) (fun j => slotPts c j fullShare (inbox m))]
  iintro ⟨#Hctx, ⟨HO, -, Hp, Hs⟩, Hown, H2, Hd, HR⟩
  ihave H := (Entails.of_eq (inbox_part m c)) $$ [Hown Hs]
  · isplitl [Hown]; · iexact Hown
    iexact Hs
  icases H with ⟨Hin, Hrest⟩
  isplitr; · iexact Hctx
  isplitl [Hin]; · iexact Hin
  isplitl [H2]; · iexact H2
  isplitl [Hrest]; · iexact Hrest
  isplitl [HO]; · iexact HO
  isplitl [Hd]; · iexact Hd
  isplitl [Hp]; · iexact Hp
  iexact HR

/-- After: the slots are whole again. -/
theorem read_close {f2 : (cc0_stg2_0 : Ref sig .tc).ty.Contents (Elt F)} :
    iprop(ctx m K ∗ wholePart m c ∗ stage2 c f2 ∗ (restParts m c ∗ (∃ W, owes (c : Thread nD τ) 0 W) ∗ bigSep (ahead c 0) (toDone c) ∗ bigSep (ahead c 0) (gotAt c) ∗ R))
      ⊢ iprop(ctx m K ∗ doneSt m c (0 : Dev nD).val ∗ (ownPart m c c ∗ stage2 c f2 ∗ bigSep (ahead c 0) (gotten m c) ∗ R)) := by
  iintro ⟨#Hctx, Hin, H2, Hrest, HO, Hd, Hp, HR⟩
  ihave Hs := (Entails.of_eq (inbox_part m c).symm) $$ [Hin Hrest]
  · isplitl [Hin]; · iexact Hin
    iexact Hrest
  icases Hs with ⟨Hown, Hs⟩
  isplitr; · iexact Hctx
  isplitl [HO Hd]
  · unfold doneSt
    isplitl [HO]; · iexact HO
    isplitl [Hd]; · iexact Hd
    rw [show (0 : Dev nD).val = 0 from rfl, behind_zero, bigSep_empty]; iempintro
  isplitl [Hown]; · iexact Hown
  isplitl [H2]; · iexact H2
  isplitl [Hp Hs]
  · iapply (Entails.of_eq (bigSep_sep' (ahead c 0) (gotAt c) (fun j => slotPts c j fullShare (inbox m))).symm)
    isplitl [Hp]; · iexact Hp
    iexact Hs
  iexact HR

end Parts

end Cert.KernelIdeal.Talk

end
-- ==== Proof.Talk.KernelIdealEnd.lean ====
/-
# What a device holds before the body, and closing the cells after it
-/
module

public import proofs.«01_k».proof.Proof.Talk.KernelIdealMoves

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

section End
variable (K : Dev nD × Option Kx → ℕ) (c : Dev nD)

/-- One kind of a device's semaphores, each at its start. -/
abbrev fresh (q : Fin 3) (j : Dev nD) : sProp 𝕄 := atPos ER (kcell (c, some (q, j))) 0 ∅ 0
/-- One kind of a device's semaphores, each past its round. -/
abbrev past (q : Fin 3) (j : Dev nD) : sProp 𝕄 := atPos ER (kcell (c, some (q, j))) 1 ∅ 0

/-- The rights a device needs for one peer. -/
abbrev rights (j : Dev nD) : sProp 𝕄 := iprop(dutyTok ER (credCell j c) 0 () ∗ dutyTok ER (sendCell c j) 0 () ∗ dutyTok ER (recvCell j c) 0 ())

/-- What one device alone holds at the start of the body. -/
def linear : sProp 𝕄 :=
  iprop((dutyTok ER (barCell (across c)) 0 () ∗ atPos ER (barCell c) 0 ∅ 0)
    ∗ (bigSep (ahead c 0) (rights c))
    ∗ (bigSep Finset.univ (fresh c 0)) ∗ (bigSep Finset.univ (fresh c 1)) ∗ bigSep Finset.univ (fresh c 2))

/-- The credits to wait for. -/
def credits : sProp 𝕄 :=
  iprop(cred (tallyAt (barCell c) () 1) ∗ (bigSep (ahead c 0) fun j => cred (tallyAt (credCell c j) () 1))
    ∗ bigSep (ahead c 0) fun j => cred (tallyAt (recvCell c j) () N))

/-- The inbox, whole. -/
def inboxPts (f : Buf (Elt F) ((c : Thread nD τ).loc cc0_scratch0)) : sProp 𝕄 := ((c : Thread nD τ).loc cc0_scratch0) ↦{fullShare} f

theorem some_slot (j : Dev nD) (f : Buf (Elt F) ((c : Thread nD τ).loc cc0_scratch0)) :
    (slotPts c j fullShare f : sProp 𝕄) ⊢ iprop(∃ f, slotPts c j fullShare f) := by iintro H; iexists f; iexact H
theorem some_slots (f : Buf (Elt F) ((c : Thread nD τ).loc cc0_scratch0)) :
    (bigSep (ahead c 0) fun j => slotPts c j fullShare f : sProp 𝕄) ⊢ bigSep (ahead c 0) fun j => iprop(∃ f, slotPts c j fullShare f) :=
  bigSep_mono fun j _ => some_slot c j f

/-- What goes with the copying, the receiving and the last waits of every peer. -/
theorem open_linear (f : Buf (Elt F) ((c : Thread nD τ).loc cc0_scratch0)) :
    iprop(linear c ∗ credits c ∗ inboxPts c f)
      ⊢ iprop((dutyTok ER (barCell (across c)) 0 () ∗ cred (tallyAt (barCell c) () 1) ∗ atPos ER (barCell c) 0 ∅ 0)
        ∗ (bigSep (ahead c 0) fun j => iprop(dutyTok ER (credCell j c) 0 () ∗ ∃ f, slotPts c j fullShare f))
        ∗ bigSep (ahead c 0) (toSend c) ∗ bigSep (ahead c 0) (toRecv c) ∗ bigSep (ahead c 0) (fresh c 1)
        ∗ (∃ f, slotPts c c fullShare f) ∗ (fresh c 0 c ∗ fresh c 1 c ∗ fresh c 2 c)) := by
  unfold linear credits inboxPts
  rw [inbox_slots c fullShare f, sep_peers (fresh c 0) c, sep_peers (fresh c 1) c, sep_peers (fresh c 2) c, sep_peers _ c,
    show (bigSep (ahead c 0) (rights c) : sProp 𝕄) = _ from bigSep_sep' (ahead c 0) (fun j => dutyTok ER (credCell j c) 0 ()) (fun j => iprop(dutyTok ER (sendCell c j) 0 () ∗ dutyTok ER (recvCell j c) 0 ())),
    show (bigSep (ahead c 0) (toRecv c) : sProp 𝕄) = _ from bigSep_sep' (ahead c 0) (fun j => cred (tallyAt (recvCell c j) () N)) (fresh c 2),
    show (bigSep (ahead c 0) (toSend c) : sProp 𝕄) = _ from bigSep_sep' (ahead c 0) (fun j => cred (tallyAt (credCell c j) () 1)) (fun j => iprop(fresh c 0 j ∗ dutyTok ER (sendCell c j) 0 () ∗ dutyTok ER (recvCell j c) 0 ())),
    bigSep_sep' (ahead c 0) (fresh c 0) (fun j => iprop(dutyTok ER (sendCell c j) 0 () ∗ dutyTok ER (recvCell j c) 0 ())),
    bigSep_sep' (ahead c 0) (fun j => dutyTok ER (credCell j c) 0 ()) (fun j => iprop(∃ f, slotPts c j fullShare f))]
  iintro ⟨⟨⟨Hb1, Hb2⟩, ⟨Ht1, Ht2⟩, ⟨Hs0, H0⟩, ⟨Hs1, H1⟩, ⟨Hs2, H2⟩⟩, ⟨Hb3, Hc1, Hc2⟩, ⟨Ho, Hp⟩⟩
  isplitl [Hb1 Hb2 Hb3]
  · isplitl [Hb1]; · iexact Hb1
    isplitl [Hb3]; · iexact Hb3
    iexact Hb2
  isplitl [Ht1 Hp]
  · isplitl [Ht1]; · iexact Ht1
    iapply (some_slots c f); iexact Hp
  isplitl [Hc1 H0 Ht2]
  · isplitl [Hc1]; · iexact Hc1
    isplitl [H0]; · iexact H0
    iexact Ht2
  isplitl [Hc2 H2]
  · isplitl [Hc2]; · iexact Hc2
    iexact H2
  isplitl [H1]; · iexact H1
  isplitl [Ho]; · iexists f; iexact Ho
  isplitl [Hs0]; · iexact Hs0
  isplitl [Hs1]; · iexact Hs1
  iexact Hs2

/-- A fact for all to use goes with each of many. -/
theorem with_all {I : Type} [DecidableEq I] {S : Finset I} {R : sProp (MT nD τ sig Unit (Elt F) ℕ UU ℕ)} [BI.Persistent R] {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_past (k : Option Kx) : iprop(ctx m K ∗ atPos ER (kcell (c, k)) 1 ∅ 0) ⊢ |={Set.univ}=> (semVal (kcell (c, k)) 0 : sProp 𝕄) := by
  iintro ⟨#Hctx, H⟩
  imod (Rounds.cell_close ER (Rd m) (Set.mem_univ (K (c, k))) (fun h => h) (R := 1) (duties_later m (kcell (c, k)))) $$ [H] with Hz
  · isplitr; · iapply (ctx_inv m K (c, k)); iexact Hctx
    iexact H
  imodintro; iexact Hz
theorem close_self (q : Fin 3) : iprop(ctx m K ∗ fresh c q c) ⊢ |={Set.univ}=> (semVal (kcell (c, some (q, c))) 0 : sProp 𝕄) := by
  iintro ⟨#Hctx, H⟩
  imod (Rounds.cell_close ER (Rd m) (Set.mem_univ (K (c, some (q, c)))) (fun h => h) (R := 0) (duties_self m c q)) $$ [H] with Hz
  · isplitr; · iapply (ctx_inv m K (c, some (q, c))); iexact Hctx
    iexact H
  imodintro; iexact Hz
/-- All semaphores of one kind are back at zero. -/
theorem close_kind (q : Fin 3) : iprop(ctx m K ∗ fresh c q c ∗ bigSep (ahead c 0) (past c q))
    ⊢ |={Set.univ}=> (bigSep Finset.univ fun j => semVal (kcell (c, some (q, j))) 0 : sProp 𝕄) := by
  rw [sep_peers _ c]
  iintro ⟨#Hctx, Hs, Hp⟩
  imod (close_self m K c q) $$ [Hs] with Hs
  · isplitr; · iexact Hctx
    iexact Hs
  imod ((with_all (R := ctx m K) fun j (_ : j ∈ ahead c 0) => close_past m K c (some (q, j))).trans (bigSep_fupd _ _)) $$ [Hp] with Hp
  · isplitr; · iexact Hctx
    iexact Hp
  imodintro
  isplitl [Hs]; · iexact Hs
  iexact Hp

theorem kinds_eq : (bigSep Finset.univ fun k : Kx => (semVal (kcell (c, some k)) 0 : sProp 𝕄))
    = iprop((bigSep Finset.univ fun j => semVal (kcell (c, some (0, j))) 0) ∗ (bigSep Finset.univ fun j => semVal (kcell (c, some (1, j))) 0)
      ∗ bigSep Finset.univ fun j => semVal (kcell (c, some (2, j))) 0) := by
  rw [bigSep_univ_prod]
  exact bigSep_univ_eq_bigSepL [0, 1, 2] (by decide) (by decide) _

/-- The semaphores at zero and the inbox whole: how the body leaves a device. -/
def atEnd : sProp 𝕄 :=
  iprop((∃ f, inboxPts c f) ∗ (bigSep Finset.univ fun k : Kx => semVal (kcell (c, some k)) 0) ∗ semVal (barCell c) 0)

theorem close_all : iprop(ctx m K ∗ doneSt m c 16 ∗ (ownPart m c c ∗ bigSep (ahead c 0) (gotten m c)
      ∗ bigSep (ahead c 0) (past c 0) ∗ atPos ER (barCell c) 1 ∅ 0 ∗ (fresh c 0 c ∗ fresh c 1 c ∗ fresh c 2 c)))
    ⊢ |={Set.univ}=> iprop((∃ W, owes (c : Thread nD τ) 0 W) ∗ atEnd c) := by
  unfold doneSt atEnd
  rw [kinds_eq, behind_end,
    show (bigSep (ahead c 0) (gotten m c) : sProp 𝕄) = _ from bigSep_sep' (ahead c 0) (past c 2) (fun j => slotPts c j fullShare (inbox m)),
    bigSep_sep' (ahead c 0) (fun j => atPos ER (sendCell c j) 1 ∅ 0) (fun j => slotPts c c (leaf 4 fullShare j) (inbox m))]
  iintro ⟨#Hctx, ⟨HO, -, H1, Hown⟩, Hc, ⟨H2, Hslots⟩, H0, Hb, ⟨Hf0, Hf1, Hf2⟩⟩
  imod (close_past m K c none) $$ [Hb] with Hb
  · isplitr; · iexact Hctx
    iexact Hb
  imod (close_kind m K c 0) $$ [H0 Hf0] with H0
  · isplitr; · iexact Hctx
    isplitl [Hf0]; · iexact Hf0
    iexact H0
  imod (close_kind m K c 1) $$ [H1 Hf1] with H1
  · isplitr; · iexact Hctx
    isplitl [Hf1]; · iexact Hf1
    iexact H1
  imod (close_kind m K c 2) $$ [H2 Hf2] with H2
  · isplitr; · iexact Hctx
    isplitl [Hf2]; · iexact Hf2
    iexact H2
  imodintro
  isplitl [HO]; · iexact HO
  isplitl [Hc Hown Hslots]
  · iexists (inbox m)
    unfold inboxPts
    rw [inbox_slots c fullShare (inbox m), sep_peers _ c, slot_parts c c (inbox m), sep_peers (fun i => slotPts c c (leaf 4 fullShare i) (inbox m)) c]
    isplitl [Hc Hown]
    · isplitl [Hc]; · iexact Hc
      iexact Hown
    iexact Hslots
  isplitl [H0 H1 H2]
  · isplitl [H0]; · iexact H0
    isplitl [H1]; · iexact H1
    iexact H2
  iexact Hb

end End

end Cert.KernelIdeal.Talk

end
-- ==== Proof.Talk.KernelIdealDeal.lean ====
/-
# The contents of the pipeline, and what each device starts with
-/
module

public import proofs.«01_k».proof.Proof.Talk.KernelIdealEnd

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

/-! ## What the pipeline's windows hold -/

/-- What a device starts the body with. -/
def start (c : Dev nD) : sProp 𝕄 := iprop((∃ K, ctx m K ∗ linear c) ∗ credits c)

def Φ₀ (c : Dev nD) : sProp 𝕄 := iprop(start m c ∗ ∃ f, inboxPts c f)

def dats (_ : Fin 1) (c : Dev nD) : Dat τ (Elt F) Unit ℕ UU ℕ cfg0 c where
  A w := m ((cfg0.win w).arr.view.loc (c : Thread nD τ))
  after w _ := match w with
    | ⟨0, _⟩ => xblk m c
    | ⟨1, _⟩ => dyblk m c
    | ⟨2, _⟩ => result m
  Φ t := match t with
    | ⟨0, _⟩ => Φ₀ m c
    | ⟨_ + 1, _⟩ => atEnd c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

/-! ## Dealing out the launch -/

theorem ownSemFacts : Pipeline.OwnSemFacts cfg0.spec osem := by decide +kernel

def talkCells : Finset (GSem nD τ sig) := Finset.univ.map ⟨kcell, kcell_injective⟩
def talkToks : Finset (GSem nD τ sig × ℕ × Unit) :=
  Finset.univ.map ⟨fun ck : Dev nD × Option Kx => (kcell ck, 0, ()), fun _ _ h => kcell_injective (congrArg Prod.fst h)⟩

def u₀ : UU := (initOf (Pipeline.cells cfgs cellOf_inj) (Pipeline.launchToks cfgs cellOf_inj), initOf talkCells talkToks)

/-- The right to count on each cell of one device. -/
abbrev tok (c : Dev nD) (k : Option Kx) : sProp 𝕄 := dutyTok ER (kcell (c, k)) 0 ()
abbrev begun (c : Dev nD) (k : Option Kx) : sProp 𝕄 := iprop(atPos ER (kcell (c, k)) 0 ∅ 0 ∗ reached ER (kcell (c, k)) 0)

def dealt (c : Dev nD) : sProp 𝕄 :=
  iprop((bigSep Finset.univ fun k => roundState ER (Rd m) (kcell (c, k)) 0) ∗ (bigSep Finset.univ (begun c)) ∗ bigSep Finset.univ (tok c))
def ready (c : Dev nD) : sProp 𝕄 := iprop(∃ K : Dev nD × Option Kx → ℕ, (bigSep Finset.univ fun ck : Dev nD × Option Kx => cellInv ER (Rd m) (K ck) (kcell ck))
    ∗ (bigSep Finset.univ fun ck : Dev nD × Option Kx => reached ER (kcell ck) 0) ∗ linear c)

theorem fund_talk : BI.own (ER (initOf talkCells talkToks)) ⊢ (|==> bigSep Finset.univ (dealt m) : sProp 𝕄) := by
  have hX (Φ : GSem nD τ sig → sProp 𝕄) : bigSep talkCells Φ = bigSep Finset.univ fun c : Dev nD => bigSep Finset.univ fun k => Φ (kcell (c, k)) := by
    unfold talkCells; rw [bigSep_map, bigSep_univ_prod]; rfl
  have hT : bigSep talkToks (fun x => (dutyTok ER x.1 x.2.1 x.2.2 : sProp 𝕄)) = bigSep Finset.univ fun c : Dev nD => bigSep Finset.univ (tok c) := by
    unfold talkToks; rw [bigSep_map, bigSep_univ_prod]; rfl
  iintro HX
  imod (Rounds.fund ER (Rd m) talkCells talkToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt begun; simp only [bigSep_sep']
  isplitl [Hst]; · iexact Hst
  isplitl [Hat Hr]
  · isplitl [Hat]; · iexact Hat
    iexact Hr
  iexact Htok

theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = bigSep Finset.univ fun k : Kx => semVal (kcell (c, some k)) 0 := rfl

/-- A family over the barrier and the others. -/
theorem over_option {M : Type} [URA M] (Φ : Option Kx → sProp M) :
    bigSep Finset.univ Φ = iprop(Φ none ∗ bigSep Finset.univ fun k : Kx => Φ (some k)) := by
  rw [show (Finset.univ : Finset (Option Kx)) = insert none (Finset.univ.map Function.Embedding.some) from rfl,
    bigSep_insert (by simp), bigSep_map]
  rfl
theorem over_kinds {M : Type} [URA M] (Φ : Kx → sProp M) :
    bigSep Finset.univ Φ = iprop((bigSep Finset.univ fun j => Φ (0, j)) ∗ (bigSep Finset.univ fun j => Φ (1, j)) ∗ bigSep Finset.univ fun j => Φ (2, j)) := by
  rw [bigSep_univ_prod]
  exact bigSep_univ_eq_bigSepL [0, 1, 2] (by decide) (by decide) _

theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (Rd m) κ (kcell (c, k))))
          ∗ (bigSep Finset.univ (begun c)) ∗ bigSep Finset.univ (tok c)) := by
  unfold dealt
  rw [ownSems0_eq, unscopedSems0_eq]
  iintro ⟨Hos, Hus, Hst, Hat, Htok⟩
  imod (show iprop((bigSep Finset.univ fun k : Option Kx => semVal (kcell (c, k)) 0) ∗ bigSep Finset.univ fun k : Option Kx => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hos Hus Hst] with Hinv
  · isplitl [Hos Hus]
    · rw [over_option]
      isplitl [Hus]; · iexact Hus
      iexact Hos
    iexact Hst
  imodintro
  isplitl [Hinv]; · iexact Hinv
  isplitl [Hat]; · iexact Hat
  iexact Htok

/-! ### The rights go where they are used -/

/-- A sum over ordered pairs of peers, the other way round. -/
theorem pairs_swap {M : Type} [URA M] (Φ : Dev nD → Dev nD → sProp M) :
    (bigSep Finset.univ fun c => bigSep Finset.univ fun j => Φ c j) = bigSep Finset.univ fun c => bigSep Finset.univ fun j => Φ j c := by
  rw [← bigSep_univ_prod (fun x : Dev nD × Dev nD => Φ x.1 x.2), ← bigSep_univ_prod (fun x : Dev nD × Dev nD => Φ x.2 x.1),
    bigSep_univ_equiv (Equiv.prodComm (Dev nD) (Dev nD)) (fun x : Dev nD × Dev nD => Φ x.1 x.2)]
  rfl

/-- What one device takes of the rights. -/
def takes (c : Dev nD) : sProp 𝕄 := iprop(dutyTok ER (barCell (across c)) 0 ()
  ∗ (bigSep Finset.univ fun j => dutyTok ER (credCell j c) 0 ()) ∗ (bigSep Finset.univ fun j => dutyTok ER (sendCell c j) 0 ())
  ∗ bigSep Finset.univ fun j => dutyTok ER (recvCell j c) 0 ())

theorem toks_dealt : (bigSep Finset.univ fun c : Dev nD => (bigSep Finset.univ (tok c) : sProp 𝕄)) ⊢ bigSep Finset.univ takes := by
  have h : (fun c : Dev nD => (bigSep Finset.univ (tok c) : sProp 𝕄)) = fun c => iprop(dutyTok ER (barCell c) 0 ()
      ∗ (bigSep Finset.univ fun j => dutyTok ER (credCell c j) 0 ()) ∗ (bigSep Finset.univ fun j => dutyTok ER (sendCell c j) 0 ())
      ∗ bigSep Finset.univ fun j => dutyTok ER (recvCell c j) 0 ()) := funext fun c => by rw [over_option, over_kinds]; rfl
  rw [h]
  unfold takes
  rw [bigSep_sep', bigSep_sep', bigSep_sep', bigSep_sep', bigSep_sep', bigSep_sep',
    bigSep_univ_equiv swap (fun c : Dev nD => (dutyTok ER (barCell c) 0 () : sProp 𝕄)),
    pairs_swap (fun c j => (dutyTok ER (credCell c j) 0 () : sProp 𝕄)), pairs_swap (fun c j => (dutyTok ER (recvCell c j) 0 () : sProp 𝕄))]
  exact BI.Entails.refl _

/-- The positions and the rights of one device, put in the order the body wants them. -/
theorem linear_intro (c : Dev nD) : iprop((bigSep Finset.univ fun k => (atPos ER (kcell (c, k)) 0 ∅ 0 : sProp 𝕄)) ∗ takes c) ⊢ linear c := by
  unfold linear takes
  rw [over_option, over_kinds,
    show (bigSep (ahead c 0) (rights c) : sProp 𝕄) = _ from bigSep_sep' (ahead c 0) (fun j => dutyTok ER (credCell j c) 0 ()) (fun j => iprop(dutyTok ER (sendCell c j) 0 () ∗ dutyTok ER (recvCell j c) 0 ())),
    bigSep_sep' (ahead c 0) (fun j => dutyTok ER (sendCell c j) 0 ()) (fun j => dutyTok ER (recvCell j c) 0 ()),
    sep_peers (fun j => (dutyTok ER (credCell j c) 0 () : sProp 𝕄)) c, sep_peers (fun j => (dutyTok ER (sendCell c j) 0 () : sProp 𝕄)) c,
    sep_peers (fun j => (dutyTok ER (recvCell j c) 0 () : sProp 𝕄)) c]
  iintro ⟨⟨Hb, H0, H1, H2⟩, Ht, ⟨-, Hc⟩, ⟨-, Hs⟩, ⟨-, Hr⟩⟩
  isplitl [Hb Ht]
  · isplitl [Ht]; · iexact Ht
    iexact Hb
  isplitl [Hc Hs Hr]
  · isplitl [Hc]; · iexact Hc
    isplitl [Hs]; · iexact Hs
    iexact Hr
  isplitl [H0]; · iexact H0
  isplitl [H1]; · iexact H1
  iexact H2

def records (K : Dev nD × Option Kx → ℕ) : sProp 𝕄 :=
  iprop((bigSep Finset.univ fun ck : Dev nD × Option Kx => cellInv ER (Rd m) (K ck) (kcell ck))
    ∗ bigSep Finset.univ fun ck : Dev nD × Option Kx => reached ER (kcell ck) 0)
instance records_persistent (K : Dev nD × Option Kx → ℕ) : BI.Persistent (records m K) := by unfold records; infer_instance

theorem ready_intro (K : Dev nD × Option Kx → ℕ) (c : Dev nD) :
    iprop(records m K ∗ ((bigSep Finset.univ fun k => atPos ER (kcell (c, k)) 0 ∅ 0) ∗ takes c)) ⊢ ready m c := by
  unfold records ready
  iintro ⟨⟨#HI, #HR⟩, H⟩
  iexists K
  isplitr; · iexact HI
  isplitr; · iexact HR
  iapply (linear_intro c); iexact H

theorem regroup :
    (bigSep Finset.univ fun c : Dev nD => iprop((bigSep Finset.univ fun k => iprop(∃ κ : ℕ, cellInv ER (Rd m) κ (kcell (c, k))))
          ∗ (bigSep Finset.univ (begun c)) ∗ bigSep Finset.univ (tok c)) : sProp 𝕄)
      ⊢ bigSep Finset.univ (ready m) := by
  rw [bigSep_sep', bigSep_sep', ← bigSep_univ_prod (fun ck : Dev nD × Option Kx => iprop(∃ κ : ℕ, cellInv ER (Rd m) κ (kcell ck))),
    bigSep_congr (s := Finset.univ) (fun (c : Dev nD) _ => bigSep_sep' Finset.univ (fun k : Option Kx => (atPos ER (kcell (c, k)) 0 ∅ 0 : sProp 𝕄)) (fun k => reached ER (kcell (c, k)) 0)),
    bigSep_sep', ← bigSep_univ_prod (fun ck : Dev nD × Option Kx => (reached ER (kcell ck) 0 : sProp 𝕄))]
  iintro ⟨HI, ⟨Hat, #HR⟩, Htok⟩
  ihave HK := (BI.bigSep_exists_pi Finset.univ (fun (ck : Dev nD × Option Kx) (κ : ℕ) => (cellInv ER (Rd m) κ (kcell ck) : sProp 𝕄))) $$ HI
  icases HK with ⟨%K, #HI⟩
  ihave Htk := (toks_dealt (F := F)) $$ Htok
  iapply (with_all (R := records m K) fun c _ => ready_intro m K c)
  isplitr
  · unfold records; isplitl; · iexact HI
    iexact HR
  · rw [bigSep_sep' Finset.univ (fun c : Dev nD => bigSep Finset.univ fun k => (atPos ER (kcell (c, k)) 0 ∅ 0 : sProp 𝕄)) takes]
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ready m) :=
  ((bigSep_mono fun c _ => core_alloc m c).trans (bigSep_fupd _ _)).trans (BI.fupd_mono (regroup m))

end Cert.KernelIdeal.Talk

end
-- ==== Proof.Talk.KernelIdealPartsA.lean ====
/-
# The body's credits
-/
module

public import proofs.«01_k».proof.Proof.Talk.KernelIdealPrinted

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

section Parts
variable (K : Dev nD × Option Kx → ℕ) (c : Dev nD)
variable {R : sProp (MT nD τ sig Unit (Elt F) ℕ UU ℕ)}

/-- What giving one credit takes. -/
abbrev toSig (j : Dev nD) : sProp 𝕄 := iprop(dutyTok ER (credCell j c) 0 () ∗ ∃ f, slotPts c j fullShare f)

/-- The device across is told that this one has started, and this one waits for the same. -/
theorem bar_step {α : Type} {Q : α → sProp (MT nD τ sig Unit (Elt F) ℕ UU ℕ)} {k : Prog (TpuEff nD τ sig (Elt F) Λ₀ .tc) α}
    {dev : Dev nD} (hd : dev = across c)
    (hk : iprop(ctx m K ∗ sigSt c 0 ∗ (atPos ER (barCell c) 1 ∅ 0 ∗ R)) ⊢ WP c k Q) :
    iprop(ctx m K ∗ ((∃ W, owes (c : Thread nD τ) (O₀ c) W) ∗ dutyTok ER (barCell (across c)) 0 () ∗ cred (tallyAt (barCell c) () 1)
        ∗ atPos ER (barCell c) 0 ∅ 0 ∗ bigSep (ahead c 0) (toSig c)) ∗ R)
      ⊢ WP c (.op (.semSignal (dev, .tc) barS (1#32).toInt) fun _ => .op (.semWait barS (1#32).toNat) fun _ => k) Q := by
  subst hd
  iintro ⟨#Hctx, ⟨⟨%W, HO⟩, Ht, Hc, Hp, HS⟩, HR⟩
  iapply (Rounds.wp_signal 𝒱₀ ER (Rd m) (c : Thread nD τ) none (dst := (across c : Thread nD τ)) (κ := K (across c, none)) (r := 0) (d := ())
    (duty_mem m (c := across c) (k := none) rfl) (amount_at m (across c) none ()) () (owedCred c 0 + owedRecv c 0) rfl) $$ [HO Ht]
  · isplitr; · iapply (ctx_inv m K (across c, none)); iexact Hctx
    isplitl [HO]; · iexact HO
    isplitl [Ht]; · iexact Ht
    isplitr
    · iapply (show BI.emp ⊢ (Rd m).payload ((across c : Thread nD τ), .reg barS) 0 () from to_payload m (across c) none); iempintro
    · iapply (ctx_reached m K (across c, none)); iexact Hctx
  iintro HO
  iapply (wait_one m K c none rfl (fun Kp => wpE_semWait_eq (defs := defs₀) (𝒱 := 𝒱₀) (c := (c : Thread nD τ)) (bd := none) (E := Set.univ) Kp) rfl
    (ctx_mayWait_bar m K c) (R := iprop(bigSep (ahead c 0) (toSig c) ∗ R)) (by
      iintro ⟨#Hctx, ⟨HO, Hp, -⟩, HS, HR⟩
      iapply hk
      isplitr; · iexact Hctx
      isplitl [HO HS]
      · unfold sigSt
        isplitl [HO]; · iexact HO
        iexact HS
      isplitl [Hp]; · iexact Hp
      iexact HR))
  isplitr; · iexact Hctx
  isplitl [HO Hc Hp]
  · isplitl [HO]; · iexists W; iexact HO
    isplitl [Hc]; · iexact Hc
    iexact Hp
  isplitl [HS]; · iexact HS
  iexact HR

set_option maxHeartbeats 1000000 in
theorem part1_run {Q : (Σ' (d0 : Dev nD) (v12 : BitVec 32), BitVec 1) → sProp (MT nD τ sig Unit (Elt F) ℕ UU ℕ)} (a0 h0 a1 h1 a2 h2 h3)
    (hQ : ∀ v, iprop(ctx m K ∗ sigSt c (3 : Dev nD).val ∗ (atPos ER (barCell c) 1 ∅ 0 ∗ R)) ⊢ Q ⟨c, num c, v⟩) :
    iprop(ctx m K ∗ ((∃ W, owes (c : Thread nD τ) (O₀ c) W) ∗ dutyTok ER (barCell (across c)) 0 () ∗ cred (tallyAt (barCell c) () 1)
        ∗ atPos ER (barCell c) 0 ∅ 0 ∗ bigSep (ahead c 0) (toSig c)) ∗ R)
      ⊢ WP c (k0_part1_skel a0 h0 a1 h1 a2 h2 (Memref.whole cc0_scratch0) h3 cc0_scratch1 cc0_scratch2 cc0_scratch3) Q := by
  unfold WP k0_part1_skel
  simp only [semSignalWord, semWaitWord, Prog.lift, Prog.bind_op, Prog.bind_ret, Prog.pure_eq_ret, wp_deviceId]
  refine bar_step m K c (dev1_eq c) ?_
  refine sig_step m K c 0 ((by decide +kernel : ∀ d, k0_cond1 d = 1#1 ↔ (0 : Dev nD) ≠ d) c) (fun _ => Fin.ext k0_dev2_eq) (fun _ => cred_sem c (place1 (k0_off1_eq c))) ?_
  refine sig_step m K c 1 ((by decide +kernel : ∀ d, k0_cond2 d = 1#1 ↔ (1 : Dev nD) ≠ d) c) (fun _ => Fin.ext k0_dev3_eq) (fun _ => cred_sem c (place1 (k0_off2_eq c))) ?_
  refine sig_step m K c 2 ((by decide +kernel : ∀ d, k0_cond3 d = 1#1 ↔ (2 : Dev nD) ≠ d) c) (fun _ => Fin.ext k0_dev4_eq) (fun _ => cred_sem c (place1 (k0_off3_eq c))) ?_
  refine ret_step c (show _ ⊢ Q ⟨c, _, _⟩ from (by decide +kernel : ∀ d : Dev nD, num d = Scalar.addi (Scalar.addi (Scalar.muli (Scalar.remsi (Scalar.divsi (Dev.word d) 8#32) 2#32) 8#32)
    (Scalar.muli (Scalar.remsi (Scalar.divsi (Dev.word d) 4#32) 2#32) 4#32)) (Scalar.remsi (Scalar.divsi (Dev.word d) 1#32) 4#32)) c ▸ hQ _)

set_option maxHeartbeats 1000000 in
theorem part2_run {Q : BitVec 1 → sProp (MT nD τ sig Unit (Elt F) ℕ UU ℕ)} (a0 h0 a1 h1 a2 h2 h3 v30)
    (hQ : ∀ v, iprop(ctx m K ∗ sigSt c (13 : Dev nD).val ∗ R) ⊢ Q v) :
    iprop(ctx m K ∗ sigSt c (3 : Dev nD).val ∗ R)
      ⊢ WP c (k0_part2_skel a0 h0 a1 h1 a2 h2 (Memref.whole cc0_scratch0) h3 cc0_scratch1 cc0_scratch2 cc0_scratch3 c (num c) v30) Q := by
  unfold WP k0_part2_skel
  simp only [semSignalWord, semWaitWord, Prog.lift, Prog.bind_op, Prog.bind_ret, Prog.pure_eq_ret]
  refine sig_step m K c 3 ((by decide +kernel : ∀ d, k0_cond4 d = 1#1 ↔ (3 : Dev nD) ≠ d) c) (fun _ => Fin.ext k0_dev5_eq) (fun _ => cred_sem c (place1 (k0_off4_eq c))) ?_
  refine sig_step m K c 4 ((by decide +kernel : ∀ d, k0_cond5 d = 1#1 ↔ (4 : Dev nD) ≠ d) c) (fun _ => Fin.ext k0_dev6_eq) (fun _ => cred_sem c (place1 (k0_off5_eq c))) ?_
  refine sig_step m K c 5 ((by decide +kernel : ∀ d, k0_cond6 d = 1#1 ↔ (5 : Dev nD) ≠ d) c) (fun _ => Fin.ext k0_dev7_eq) (fun _ => cred_sem c (place1 (k0_off6_eq c))) ?_
  refine sig_step m K c 6 ((by decide +kernel : ∀ d, k0_cond7 d = 1#1 ↔ (6 : Dev nD) ≠ d) c) (fun _ => Fin.ext k0_dev8_eq) (fun _ => cred_sem c (place1 (k0_off7_eq c))) ?_
  refine sig_step m K c 7 ((by decide +kernel : ∀ d, k0_cond8 d = 1#1 ↔ (7 : Dev nD) ≠ d) c) (fun _ => Fin.ext k0_dev9_eq) (fun _ => cred_sem c (place1 (k0_off8_eq c))) ?_
  refine sig_step m K c 8 ((by decide +kernel : ∀ d, k0_cond9 d = 1#1 ↔ (8 : Dev nD) ≠ d) c) (fun _ => Fin.ext k0_dev10_eq) (fun _ => cred_sem c (place1 (k0_off9_eq c))) ?_
  refine sig_step m K c 9 ((by decide +kernel : ∀ d, k0_cond10 d = 1#1 ↔ (9 : Dev nD) ≠ d) c) (fun _ => Fin.ext k0_dev11_eq) (fun _ => cred_sem c (place1 (k0_off10_eq c))) ?_
  refine sig_step m K c 10 ((by decide +kernel : ∀ d, k0_cond11 d = 1#1 ↔ (10 : Dev nD) ≠ d) c) (fun _ => Fin.ext k0_dev12_eq) (fun _ => cred_sem c (place1 (k0_off11_eq c))) ?_
  refine sig_step m K c 11 ((by decide +kernel : ∀ d, k0_cond12 d = 1#1 ↔ (11 : Dev nD) ≠ d) c) (fun _ => Fin.ext k0_dev13_eq) (fun _ => cred_sem c (place1 (k0_off12_eq c))) ?_
  refine sig_step m K c 12 ((by decide +kernel : ∀ d, k0_cond13 d = 1#1 ↔ (12 : Dev nD) ≠ d) c) (fun _ => Fin.ext k0_dev14_eq) (fun _ => cred_sem c (place1 (k0_off13_eq c))) ?_
  exact ret_step c (hQ _)

set_option maxHeartbeats 1000000 in
theorem part3_run {Q : FVec F S1x2x2048 .f32 → sProp (MT nD τ sig Unit (Elt F) ℕ UU ℕ)} (a2 h0 h1 h2 h3 v60) (f0 : (cc0_stg0_0 : Ref sig .tc).ty.Contents (Elt F)) (f1 : (cc0_stg1_0 : Ref sig .tc).ty.Contents (Elt F))
    (hQ : iprop(ctx m K ∗ sigSt c (15 : Dev nD).val.succ ∗ (stage0 c f0 ∗ stage1 c f1 ∗ R)) ⊢ Q (k0_pay1 f0 f1)) :
    iprop(ctx m K ∗ sigSt c (13 : Dev nD).val ∗ (stage0 c f0 ∗ stage1 c f1 ∗ R))
      ⊢ WP c (k0_part3_skel (Memref.whole cc0_stg0_0) h0 (Memref.whole cc0_stg1_0) h1 a2 h2 (Memref.whole cc0_scratch0) h3 cc0_scratch1 cc0_scratch2 cc0_scratch3 c (num c) v60) Q := by
  unfold WP k0_part3_skel
  simp only [semSignalWord, semWaitWord, Prog.lift, Prog.bind_op, Prog.bind_ret, Prog.pure_eq_ret]
  refine sig_step m K c 13 ((by decide +kernel : ∀ d, k0_cond14 d = 1#1 ↔ (13 : Dev nD) ≠ d) c) (fun _ => Fin.ext k0_dev15_eq) (fun _ => cred_sem c (place1 (k0_off14_eq c))) ?_
  refine sig_step m K c 14 ((by decide +kernel : ∀ d, k0_cond15 d = 1#1 ↔ (14 : Dev nD) ≠ d) c) (fun _ => Fin.ext k0_dev16_eq) (fun _ => cred_sem c (place1 (k0_off15_eq c))) ?_
  refine sig_step m K c 15 ((by decide +kernel : ∀ d, k0_cond16 d = 1#1 ↔ (15 : Dev nD) ≠ d) c) (fun _ => Fin.ext k0_dev17_eq) (fun _ => cred_sem c (place1 (k0_off16_eq c))) ?_
  iintro ⟨#Hctx, HS, H0, H1, HR⟩
  iapply (wp_load 𝒱₀ (c : Thread nD τ) none Set.univ (m := Memref.whole cc0_stg0_0) (Finset.subset_univ _)) $$ H0; iintro H0
  iapply (wp_load 𝒱₀ (c : Thread nD τ) none Set.univ (m := Memref.whole cc0_stg1_0) (Finset.subset_univ _)) $$ H1; iintro H1
  rw [wp_ret, show (Memref.whole cc0_stg0_0 : Memref sig .tc .vmem S256x2048 .f32).view.readAt (Elt F) _ f0 = f0 from Memref.readAt_unit_zero (Elt F) cc0_stg0_0 hz2 _ f0,
    show (Memref.whole cc0_stg1_0 : Memref sig .tc .vmem S256x2048 .f32).view.readAt (Elt F) _ f1 = f1 from Memref.readAt_unit_zero (Elt F) cc0_stg1_0 hz2 _ f1]
  imodintro; iapply hQ
  isplitr; · iexact Hctx
  isplitl [HS]; · iexact HS
  isplitl [H0]; · iexact H0
  isplitl [H1]; · iexact H1
  iexact HR

end Parts

end Cert.KernelIdeal.Talk

end
-- ==== Proof.Talk.KernelIdealPartsB.lean ====
/-
# The body: the first copies
-/
module

public import proofs.«01_k».proof.Proof.Talk.KernelIdealMoves

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

section Parts
variable (K : Dev nD × Option Kx → ℕ) (c : Dev nD)
variable {R : sProp (MT nD τ sig Unit (Elt F) ℕ UU ℕ)}

set_option maxHeartbeats 1000000 in
theorem part4_run {Q : BitVec 32 → sProp (MT nD τ sig Unit (Elt F) ℕ UU ℕ)} (a0 h0 a1 h1 a2 h2 h3)
    (hQ : iprop(ctx m K ∗ sendSt m c (9 : Dev nD).val ∗ (ownPart m c c ∗ R)) ⊢ Q 9#32) :
    iprop(ctx m K ∗ (∃ f, slotPts c c fullShare f) ∗ ((∃ W, owes (c : Thread nD τ) (owedRecv c 0) W) ∗ bigSep (ahead c 0) (toSend c) ∗ R))
      ⊢ WP c (k0_part4_skel a0 h0 a1 h1 a2 h2 (Memref.whole cc0_scratch0) h3 cc0_scratch1 cc0_scratch2 cc0_scratch3 c (num c) (k0_pay1 (xblk m c) (dyblk m c))) Q := by
  unfold WP k0_part4_skel
  simp only [semSignalWord, semWaitWord, Prog.lift, Prog.bind_op, Prog.bind_ret, Prog.pure_eq_ret]
  refine own_step m K c (place3 (k0_off17_eq c)) ?_
  refine BIBase.Entails.trans ?_ (show iprop(ctx m K ∗ sendSt m c (0 : Dev nD).val ∗ (ownPart m c c ∗ R)) ⊢ WP c _ Q from ?_)
  · iintro ⟨#Hctx, Hs, HO, Ht, HR⟩
    isplitr; · iexact Hctx
    ihave H := (send_start m c) $$ [HO Hs Ht]
    · isplitl [HO]; · iexact HO
      isplitl [Hs]; · iexact Hs
      iexact Ht
    icases H with ⟨H1, H2⟩
    isplitl [H1]; · iexact H1
    isplitl [H2]; · iexact H2
    iexact HR
  refine send_step m K c 0 ((by decide +kernel : ∀ d, k0_cond17 d = 1#1 ↔ (0 : Dev nD) ≠ d) c) (fun _ => Fin.ext k0_dev18_eq) (fun _ => cred_sem 0 rfl) (fun _ => send_sem 0 rfl)
    (fun _ => recv_sem c (place1 (k0_off18_eq c))) (fun _ => slot_ref c (place3 (k0_off19_eq c))) (fun _ => slot_ref c (place3 (k0_off19_eq c))) ?_
  refine send_step m K c 1 ((by decide +kernel : ∀ d, k0_cond18 d = 1#1 ↔ (1 : Dev nD) ≠ d) c) (fun _ => Fin.ext k0_dev19_eq) (fun _ => cred_sem 1 rfl) (fun _ => send_sem 1 rfl)
    (fun _ => recv_sem c (place1 (k0_off20_eq c))) (fun _ => slot_ref c (place3 (k0_off21_eq c))) (fun _ => slot_ref c (place3 (k0_off21_eq c))) ?_
  refine send_step m K c 2 ((by decide +kernel : ∀ d, k0_cond19 d = 1#1 ↔ (2 : Dev nD) ≠ d) c) (fun _ => Fin.ext k0_dev20_eq) (fun _ => cred_sem 2 rfl) (fun _ => send_sem 2 rfl)
    (fun _ => recv_sem c (place1 (k0_off22_eq c))) (fun _ => slot_ref c (place3 (k0_off23_eq c))) (fun _ => slot_ref c (place3 (k0_off23_eq c))) ?_
  refine send_step m K c 3 ((by decide +kernel : ∀ d, k0_cond20 d = 1#1 ↔ (3 : Dev nD) ≠ d) c) (fun _ => Fin.ext k0_dev21_eq) (fun _ => cred_sem 3 rfl) (fun _ => send_sem 3 rfl)
    (fun _ => recv_sem c (place1 (k0_off24_eq c))) (fun _ => slot_ref c (place3 (k0_off25_eq c))) (fun _ => slot_ref c (place3 (k0_off25_eq c))) ?_
  refine send_step m K c 4 ((by decide +kernel : ∀ d, k0_cond21 d = 1#1 ↔ (4 : Dev nD) ≠ d) c) (fun _ => Fin.ext k0_dev22_eq) (fun _ => cred_sem 4 rfl) (fun _ => send_sem 4 rfl)
    (fun _ => recv_sem c (place1 (k0_off26_eq c))) (fun _ => slot_ref c (place3 (k0_off27_eq c))) (fun _ => slot_ref c (place3 (k0_off27_eq c))) ?_
  refine send_step m K c 5 ((by decide +kernel : ∀ d, k0_cond22 d = 1#1 ↔ (5 : Dev nD) ≠ d) c) (fun _ => Fin.ext k0_dev23_eq) (fun _ => cred_sem 5 rfl) (fun _ => send_sem 5 rfl)
    (fun _ => recv_sem c (place1 (k0_off28_eq c))) (fun _ => slot_ref c (place3 (k0_off29_eq c))) (fun _ => slot_ref c (place3 (k0_off29_eq c))) ?_
  refine send_step m K c 6 ((by decide +kernel : ∀ d, k0_cond23 d = 1#1 ↔ (6 : Dev nD) ≠ d) c) (fun _ => Fin.ext k0_dev24_eq) (fun _ => cred_sem 6 rfl) (fun _ => send_sem 6 rfl)
    (fun _ => recv_sem c (place1 (k0_off30_eq c))) (fun _ => slot_ref c (place3 (k0_off31_eq c))) (fun _ => slot_ref c (place3 (k0_off31_eq c))) ?_
  refine send_step m K c 7 ((by decide +kernel : ∀ d, k0_cond24 d = 1#1 ↔ (7 : Dev nD) ≠ d) c) (fun _ => Fin.ext k0_dev25_eq) (fun _ => cred_sem 7 rfl) (fun _ => send_sem 7 rfl)
    (fun _ => recv_sem c (place1 (k0_off32_eq c))) (fun _ => slot_ref c (place3 (k0_off33_eq c))) (fun _ => slot_ref c (place3 (k0_off33_eq c))) ?_
  refine send_step m K c 8 ((by decide +kernel : ∀ d, k0_cond25 d = 1#1 ↔ (8 : Dev nD) ≠ d) c) (fun _ => Fin.ext k0_dev26_eq) (fun _ => cred_sem 8 rfl) (fun _ => send_sem 8 rfl)
    (fun _ => recv_sem c (place1 (k0_off34_eq c))) (fun _ => slot_ref c (place3 (k0_off35_eq c))) (fun _ => slot_ref c (place3 (k0_off35_eq c))) ?_
  exact ret_step c hQ

end Parts

end Cert.KernelIdeal.Talk

end
-- ==== Proof.Talk.KernelIdealPartsC.lean ====
/-
# The body: the last copies and the first receives
-/
module

public import proofs.«01_k».proof.Proof.Talk.KernelIdealMoves

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

section Parts
variable (K : Dev nD × Option Kx → ℕ) (c : Dev nD)
variable {R : sProp (MT nD τ sig Unit (Elt F) ℕ UU ℕ)}

set_option maxHeartbeats 1000000 in
theorem part5_run {Q : BitVec 32 → sProp (MT nD τ sig Unit (Elt F) ℕ UU ℕ)} (a0 h0 a1 h1 a2 h2 h3 v)
    (hQ : iprop(ctx m K ∗ recvSt m c (3 : Dev nD).val ∗ (bigSep (ahead c 0) (sent c) ∗ R)) ⊢ Q 3#32) :
    iprop(ctx m K ∗ sendSt m c (9 : Dev nD).val ∗ (bigSep (ahead c 0) (toRecv c) ∗ R))
      ⊢ WP c (k0_part5_skel a0 h0 a1 h1 a2 h2 (Memref.whole cc0_scratch0) h3 cc0_scratch1 cc0_scratch2 cc0_scratch3 c (num c) v) Q := by
  unfold WP k0_part5_skel
  simp only [semSignalWord, semWaitWord, Prog.lift, Prog.bind_op, Prog.bind_ret, Prog.pure_eq_ret]
  refine send_step m K c 9 ((by decide +kernel : ∀ d, k0_cond26 d = 1#1 ↔ (9 : Dev nD) ≠ d) c) (fun _ => Fin.ext k0_dev27_eq) (fun _ => cred_sem 9 rfl) (fun _ => send_sem 9 rfl)
    (fun _ => recv_sem c (place1 (k0_off36_eq c))) (fun _ => slot_ref c (place3 (k0_off37_eq c))) (fun _ => slot_ref c (place3 (k0_off37_eq c))) ?_
  refine send_step m K c 10 ((by decide +kernel : ∀ d, k0_cond27 d = 1#1 ↔ (10 : Dev nD) ≠ d) c) (fun _ => Fin.ext k0_dev28_eq) (fun _ => cred_sem 10 rfl) (fun _ => send_sem 10 rfl)
    (fun _ => recv_sem c (place1 (k0_off38_eq c))) (fun _ => slot_ref c (place3 (k0_off39_eq c))) (fun _ => slot_ref c (place3 (k0_off39_eq c))) ?_
  refine send_step m K c 11 ((by decide +kernel : ∀ d, k0_cond28 d = 1#1 ↔ (11 : Dev nD) ≠ d) c) (fun _ => Fin.ext k0_dev29_eq) (fun _ => cred_sem 11 rfl) (fun _ => send_sem 11 rfl)
    (fun _ => recv_sem c (place1 (k0_off40_eq c))) (fun _ => slot_ref c (place3 (k0_off41_eq c))) (fun _ => slot_ref c (place3 (k0_off41_eq c))) ?_
  refine send_step m K c 12 ((by decide +kernel : ∀ d, k0_cond29 d = 1#1 ↔ (12 : Dev nD) ≠ d) c) (fun _ => Fin.ext k0_dev30_eq) (fun _ => cred_sem 12 rfl) (fun _ => send_sem 12 rfl)
    (fun _ => recv_sem c (place1 (k0_off42_eq c))) (fun _ => slot_ref c (place3 (k0_off43_eq c))) (fun _ => slot_ref c (place3 (k0_off43_eq c))) ?_
  refine send_step m K c 13 ((by decide +kernel : ∀ d, k0_cond30 d = 1#1 ↔ (13 : Dev nD) ≠ d) c) (fun _ => Fin.ext k0_dev31_eq) (fun _ => cred_sem 13 rfl) (fun _ => send_sem 13 rfl)
    (fun _ => recv_sem c (place1 (k0_off44_eq c))) (fun _ => slot_ref c (place3 (k0_off45_eq c))) (fun _ => slot_ref c (place3 (k0_off45_eq c))) ?_
  refine send_step m K c 14 ((by decide +kernel : ∀ d, k0_cond31 d = 1#1 ↔ (14 : Dev nD) ≠ d) c) (fun _ => Fin.ext k0_dev32_eq) (fun _ => cred_sem 14 rfl) (fun _ => send_sem 14 rfl)
    (fun _ => recv_sem c (place1 (k0_off46_eq c))) (fun _ => slot_ref c (place3 (k0_off47_eq c))) (fun _ => slot_ref c (place3 (k0_off47_eq c))) ?_
  refine send_step m K c 15 ((by decide +kernel : ∀ d, k0_cond32 d = 1#1 ↔ (15 : Dev nD) ≠ d) c) (fun _ => Fin.ext k0_dev33_eq) (fun _ => cred_sem 15 rfl) (fun _ => send_sem 15 rfl)
    (fun _ => recv_sem c (place1 (k0_off48_eq c))) (fun _ => slot_ref c (place3 (k0_off49_eq c))) (fun _ => slot_ref c (place3 (k0_off49_eq c))) ?_
  refine BIBase.Entails.trans ?_ (show iprop(ctx m K ∗ recvSt m c (0 : Dev nD).val ∗ (bigSep (ahead c 0) (sent c) ∗ R)) ⊢ WP c _ Q from ?_)
  · iintro ⟨#Hctx, Hs, Hr, HR⟩
    isplitr; · iexact Hctx
    ihave H := (recv_start m c) $$ [Hs Hr]
    · isplitl [Hs]; · iexact Hs
      iexact Hr
    icases H with ⟨H1, H2⟩
    isplitl [H1]; · iexact H1
    isplitl [H2]; · iexact H2
    iexact HR
  refine recv_step m K c 0 ((by decide +kernel : ∀ d : Dev nD, Scalar.cmpi .ne (Scalar.extui (Scalar.cmpi .ne (num d) 0#32) : BitVec 32) 0#32 = 1#1 ↔ (0 : Dev nD) ≠ d) c) (fun _ Kp => wait_clause c 0 (recv_sem 0 rfl) (slot_ref 0 rfl) Kp) ?_
  refine recv_step m K c 1 ((by decide +kernel : ∀ d : Dev nD, Scalar.cmpi .ne (Scalar.extui (Scalar.cmpi .ne (num d) 1#32) : BitVec 32) 0#32 = 1#1 ↔ (1 : Dev nD) ≠ d) c) (fun _ Kp => wait_clause c 1 (recv_sem 1 rfl) (slot_ref 1 rfl) Kp) ?_
  refine recv_step m K c 2 ((by decide +kernel : ∀ d : Dev nD, Scalar.cmpi .ne (Scalar.extui (Scalar.cmpi .ne (num d) 2#32) : BitVec 32) 0#32 = 1#1 ↔ (2 : Dev nD) ≠ d) c) (fun _ Kp => wait_clause c 2 (recv_sem 2 rfl) (slot_ref 2 rfl) Kp) ?_
  exact ret_step c hQ

end Parts

end Cert.KernelIdeal.Talk

end
-- ==== Proof.Talk.KernelIdealPartsD.lean ====
/-
# The body: the last receives, the result
-/
module

public import proofs.«01_k».proof.Proof.Talk.KernelIdealMoves

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

section Parts
variable (K : Dev nD × Option Kx → ℕ) (c : Dev nD)
variable {R : sProp (MT nD τ sig Unit (Elt F) ℕ UU ℕ)}

set_option maxHeartbeats 1000000 in
theorem part6_run {Q : BitVec 32 → sProp (MT nD τ sig Unit (Elt F) ℕ UU ℕ)} (a0 h0 a1 h1 a2 h2 h3)
    (hQ : iprop(ctx m K ∗ recvSt m c (13 : Dev nD).val ∗ R) ⊢ Q 13#32) :
    iprop(ctx m K ∗ recvSt m c (3 : Dev nD).val ∗ R)
      ⊢ WP c (k0_part6_skel a0 h0 a1 h1 a2 h2 (Memref.whole cc0_scratch0) h3 cc0_scratch1 cc0_scratch2 cc0_scratch3 (num c) 3#32) Q := by
  unfold WP k0_part6_skel
  simp only [semSignalWord, semWaitWord, Prog.lift, Prog.bind_op, Prog.bind_ret, Prog.pure_eq_ret]
  refine recv_step m K c 3 ((by decide +kernel : ∀ d : Dev nD, Scalar.cmpi .ne (Scalar.extui (Scalar.cmpi .ne (num d) 3#32) : BitVec 32) 0#32 = 1#1 ↔ (3 : Dev nD) ≠ d) c) (fun _ Kp => wait_clause c 3 (recv_sem 3 rfl) (slot_ref 3 rfl) Kp) ?_
  refine recv_step m K c 4 ((by decide +kernel : ∀ d : Dev nD, Scalar.cmpi .ne (Scalar.extui (Scalar.cmpi .ne (num d) 4#32) : BitVec 32) 0#32 = 1#1 ↔ (4 : Dev nD) ≠ d) c) (fun _ Kp => wait_clause c 4 (recv_sem 4 rfl) (slot_ref 4 rfl) Kp) ?_
  refine recv_step m K c 5 ((by decide +kernel : ∀ d : Dev nD, Scalar.cmpi .ne (Scalar.extui (Scalar.cmpi .ne (num d) 5#32) : BitVec 32) 0#32 = 1#1 ↔ (5 : Dev nD) ≠ d) c) (fun _ Kp => wait_clause c 5 (recv_sem 5 rfl) (slot_ref 5 rfl) Kp) ?_
  refine recv_step m K c 6 ((by decide +kernel : ∀ d : Dev nD, Scalar.cmpi .ne (Scalar.extui (Scalar.cmpi .ne (num d) 6#32) : BitVec 32) 0#32 = 1#1 ↔ (6 : Dev nD) ≠ d) c) (fun _ Kp => wait_clause c 6 (recv_sem 6 rfl) (slot_ref 6 rfl) Kp) ?_
  refine recv_step m K c 7 ((by decide +kernel : ∀ d : Dev nD, Scalar.cmpi .ne (Scalar.extui (Scalar.cmpi .ne (num d) 7#32) : BitVec 32) 0#32 = 1#1 ↔ (7 : Dev nD) ≠ d) c) (fun _ Kp => wait_clause c 7 (recv_sem 7 rfl) (slot_ref 7 rfl) Kp) ?_
  refine recv_step m K c 8 ((by decide +kernel : ∀ d : Dev nD, Scalar.cmpi .ne (Scalar.extui (Scalar.cmpi .ne (num d) 8#32) : BitVec 32) 0#32 = 1#1 ↔ (8 : Dev nD) ≠ d) c) (fun _ Kp => wait_clause c 8 (recv_sem 8 rfl) (slot_ref 8 rfl) Kp) ?_
  refine recv_step m K c 9 ((by decide +kernel : ∀ d : Dev nD, Scalar.cmpi .ne (Scalar.extui (Scalar.cmpi .ne (num d) 9#32) : BitVec 32) 0#32 = 1#1 ↔ (9 : Dev nD) ≠ d) c) (fun _ Kp => wait_clause c 9 (recv_sem 9 rfl) (slot_ref 9 rfl) Kp) ?_
  refine recv_step m K c 10 ((by decide +kernel : ∀ d : Dev nD, Scalar.cmpi .ne (Scalar.extui (Scalar.cmpi .ne (num d) 10#32) : BitVec 32) 0#32 = 1#1 ↔ (10 : Dev nD) ≠ d) c) (fun _ Kp => wait_clause c 10 (recv_sem 10 rfl) (slot_ref 10 rfl) Kp) ?_
  refine recv_step m K c 11 ((by decide +kernel : ∀ d : Dev nD, Scalar.cmpi .ne (Scalar.extui (Scalar.cmpi .ne (num d) 11#32) : BitVec 32) 0#32 = 1#1 ↔ (11 : Dev nD) ≠ d) c) (fun _ Kp => wait_clause c 11 (recv_sem 11 rfl) (slot_ref 11 rfl) Kp) ?_
  refine recv_step m K c 12 ((by decide +kernel : ∀ d : Dev nD, Scalar.cmpi .ne (Scalar.extui (Scalar.cmpi .ne (num d) 12#32) : BitVec 32) 0#32 = 1#1 ↔ (12 : Dev nD) ≠ d) c) (fun _ Kp => wait_clause c 12 (recv_sem 12 rfl) (slot_ref 12 rfl) Kp) ?_
  exact ret_step c hQ

set_option maxHeartbeats 1000000 in
theorem part7_run {Q : BitVec 32 → sProp (MT nD τ sig Unit (Elt F) ℕ UU ℕ)} (a0 h0 a1 h1 h2 h3 f2)
    (hQ : ∀ v, iprop(ctx m K ∗ doneSt m c (5 : Dev nD).val ∗ (ownPart m c c ∗ stage2 c (result m) ∗ bigSep (ahead c 0) (gotten m c) ∗ R)) ⊢ Q v) :
    iprop(ctx m K ∗ recvSt m c (13 : Dev nD).val ∗ (ownPart m c c ∗ stage2 c f2 ∗ bigSep (ahead c 0) (toDone c) ∗ R))
      ⊢ WP c (k0_part7_skel a0 h0 a1 h1 (Memref.whole cc0_stg2_0) h2 (Memref.whole cc0_scratch0) h3 cc0_scratch1 cc0_scratch2 cc0_scratch3 c (num c) 13#32) Q := by
  unfold WP k0_part7_skel
  simp only [semSignalWord, semWaitWord, Prog.lift, Prog.bind_op, Prog.bind_ret, Prog.pure_eq_ret]
  refine recv_step m K c 13 ((by decide +kernel : ∀ d : Dev nD, Scalar.cmpi .ne (Scalar.extui (Scalar.cmpi .ne (num d) 13#32) : BitVec 32) 0#32 = 1#1 ↔ (13 : Dev nD) ≠ d) c) (fun _ Kp => wait_clause c 13 (recv_sem 13 rfl) (slot_ref 13 rfl) Kp) ?_
  refine recv_step m K c 14 ((by decide +kernel : ∀ d : Dev nD, Scalar.cmpi .ne (Scalar.extui (Scalar.cmpi .ne (num d) 14#32) : BitVec 32) 0#32 = 1#1 ↔ (14 : Dev nD) ≠ d) c) (fun _ Kp => wait_clause c 14 (recv_sem 14 rfl) (slot_ref 14 rfl) Kp) ?_
  refine recv_step m K c 15 ((by decide +kernel : ∀ d : Dev nD, Scalar.cmpi .ne (Scalar.extui (Scalar.cmpi .ne (num d) 15#32) : BitVec 32) 0#32 = 1#1 ↔ (15 : Dev nD) ≠ d) c) (fun _ Kp => wait_clause c 15 (recv_sem 15 rfl) (slot_ref 15 rfl) Kp) ?_
  refine BIBase.Entails.trans (read_open m K c) ?_
  refine out_step m K c ?_
  refine BIBase.Entails.trans (read_close m K c) ?_
  refine done_step m K c 0 ((by decide +kernel : ∀ d, k0_cond49 d = 1#1 ↔ (0 : Dev nD) ≠ d) c) (fun _ Kp => wait_clause c c (send_sem 0 rfl) (slot_ref c (place3 (k0_off50_eq c))) Kp) ?_
  refine done_step m K c 1 ((by decide +kernel : ∀ d, k0_cond50 d = 1#1 ↔ (1 : Dev nD) ≠ d) c) (fun _ Kp => wait_clause c c (send_sem 1 rfl) (slot_ref c (place3 (k0_off51_eq c))) Kp) ?_
  refine done_step m K c 2 ((by decide +kernel : ∀ d, k0_cond51 d = 1#1 ↔ (2 : Dev nD) ≠ d) c) (fun _ Kp => wait_clause c c (send_sem 2 rfl) (slot_ref c (place3 (k0_off52_eq c))) Kp) ?_
  refine done_step m K c 3 ((by decide +kernel : ∀ d, k0_cond52 d = 1#1 ↔ (3 : Dev nD) ≠ d) c) (fun _ Kp => wait_clause c c (send_sem 3 rfl) (slot_ref c (place3 (k0_off53_eq c))) Kp) ?_
  refine done_step m K c 4 ((by decide +kernel : ∀ d, k0_cond53 d = 1#1 ↔ (4 : Dev nD) ≠ d) c) (fun _ Kp => wait_clause c c (send_sem 4 rfl) (slot_ref c (place3 (k0_off54_eq c))) Kp) ?_
  exact ret_step c (hQ _)

end Parts

end Cert.KernelIdeal.Talk

end
-- ==== Proof.Talk.KernelIdealPartsE.lean ====
/-
# The body: the waits for the copies sent
-/
module

public import proofs.«01_k».proof.Proof.Talk.KernelIdealMoves

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

section Parts
variable (K : Dev nD × Option Kx → ℕ) (c : Dev nD)
variable {R : sProp (MT nD τ sig Unit (Elt F) ℕ UU ℕ)}

set_option maxHeartbeats 1000000 in
theorem part8_run {Q : BitVec 32 → sProp (MT nD τ sig Unit (Elt F) ℕ UU ℕ)} (a0 h0 a1 h1 a2 h2 h3 v)
    (hQ : ∀ w, iprop(ctx m K ∗ doneSt m c (15 : Dev nD).val ∗ R) ⊢ Q w) :
    iprop(ctx m K ∗ doneSt m c (5 : Dev nD).val ∗ R)
      ⊢ WP c (k0_part8_skel a0 h0 a1 h1 a2 h2 (Memref.whole cc0_scratch0) h3 cc0_scratch1 cc0_scratch2 cc0_scratch3 c (num c) v) Q := by
  unfold WP k0_part8_skel
  simp only [semSignalWord, semWaitWord, Prog.lift, Prog.bind_op, Prog.bind_ret, Prog.pure_eq_ret]
  refine done_step m K c 5 ((by decide +kernel : ∀ d, k0_cond54 d = 1#1 ↔ (5 : Dev nD) ≠ d) c) (fun _ Kp => wait_clause c c (send_sem 5 rfl) (slot_ref c (place3 (k0_off55_eq c))) Kp) ?_
  refine done_step m K c 6 ((by decide +kernel : ∀ d, k0_cond55 d = 1#1 ↔ (6 : Dev nD) ≠ d) c) (fun _ Kp => wait_clause c c (send_sem 6 rfl) (slot_ref c (place3 (k0_off56_eq c))) Kp) ?_
  refine done_step m K c 7 ((by decide +kernel : ∀ d, k0_cond56 d = 1#1 ↔ (7 : Dev nD) ≠ d) c) (fun _ Kp => wait_clause c c (send_sem 7 rfl) (slot_ref c (place3 (k0_off57_eq c))) Kp) ?_
  refine done_step m K c 8 ((by decide +kernel : ∀ d, k0_cond57 d = 1#1 ↔ (8 : Dev nD) ≠ d) c) (fun _ Kp => wait_clause c c (send_sem 8 rfl) (slot_ref c (place3 (k0_off58_eq c))) Kp) ?_
  refine done_step m K c 9 ((by decide +kernel : ∀ d, k0_cond58 d = 1#1 ↔ (9 : Dev nD) ≠ d) c) (fun _ Kp => wait_clause c c (send_sem 9 rfl) (slot_ref c (place3 (k0_off59_eq c))) Kp) ?_
  refine done_step m K c 10 ((by decide +kernel : ∀ d, k0_cond59 d = 1#1 ↔ (10 : Dev nD) ≠ d) c) (fun _ Kp => wait_clause c c (send_sem 10 rfl) (slot_ref c (place3 (k0_off60_eq c))) Kp) ?_
  refine done_step m K c 11 ((by decide +kernel : ∀ d, k0_cond60 d = 1#1 ↔ (11 : Dev nD) ≠ d) c) (fun _ Kp => wait_clause c c (send_sem 11 rfl) (slot_ref c (place3 (k0_off61_eq c))) Kp) ?_
  refine done_step m K c 12 ((by decide +kernel : ∀ d, k0_cond61 d = 1#1 ↔ (12 : Dev nD) ≠ d) c) (fun _ Kp => wait_clause c c (send_sem 12 rfl) (slot_ref c (place3 (k0_off62_eq c))) Kp) ?_
  refine done_step m K c 13 ((by decide +kernel : ∀ d, k0_cond62 d = 1#1 ↔ (13 : Dev nD) ≠ d) c) (fun _ Kp => wait_clause c c (send_sem 13 rfl) (slot_ref c (place3 (k0_off63_eq c))) Kp) ?_
  refine done_step m K c 14 ((by decide +kernel : ∀ d, k0_cond63 d = 1#1 ↔ (14 : Dev nD) ≠ d) c) (fun _ Kp => wait_clause c c (send_sem 14 rfl) (slot_ref c (place3 (k0_off64_eq c))) Kp) ?_
  exact ret_step c (hQ _)

end Parts

end Cert.KernelIdeal.Talk

end
-- ==== Proof.Talk.KernelIdealBody.lean ====
/-
# The body, run through
-/
module

public import proofs.«01_k».proof.Proof.Talk.KernelIdealDeal
public import proofs.«01_k».proof.Proof.Talk.KernelIdealPartsA
public import proofs.«01_k».proof.Proof.Talk.KernelIdealPartsB
public import proofs.«01_k».proof.Proof.Talk.KernelIdealPartsC
public import proofs.«01_k».proof.Proof.Talk.KernelIdealPartsD
public import proofs.«01_k».proof.Proof.Talk.KernelIdealPartsE

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

section Body
variable (K : Dev nD × Option Kx → ℕ) (c : Dev nD)

/-- The two blocks as staged. -/
abbrev staged : sProp 𝕄 := iprop(stage0 c (xblk m c) ∗ stage1 c (dyblk m c))
/-- The semaphores a device has for itself. -/
abbrev selves : sProp 𝕄 := iprop(fresh c 0 c ∗ fresh c 1 c ∗ fresh c 2 c)
abbrev atBar : sProp 𝕄 := atPos ER (barCell c) 1 ∅ 0

/-- What is kept by through the signals. -/
abbrev kept (f2 : (cc0_stg2_0 : Ref sig .tc).ty.Contents (Elt F)) : sProp 𝕄 :=
  iprop(bigSep (ahead c 0) (toSend c) ∗ bigSep (ahead c 0) (toRecv c) ∗ bigSep (ahead c 0) (fresh c 1)
    ∗ (∃ f, slotPts c c fullShare f) ∗ selves c ∗ stage2 c f2)
/-- And through the copies. -/
abbrev keptB (f2 : (cc0_stg2_0 : Ref sig .tc).ty.Contents (Elt F)) : sProp 𝕄 :=
  iprop(bigSep (ahead c 0) (fresh c 1) ∗ selves c ∗ stage2 c f2 ∗ staged m c ∗ atBar c)
/-- And to the end. -/
abbrev keptC : sProp 𝕄 := iprop(bigSep (ahead c 0) (past c 0) ∗ selves c ∗ staged m c ∗ atBar c)

theorem to_part1 (f2) :
    iprop(ctx m K ∗ linear c ∗ credits c ∗ (∃ f, inboxPts c f) ∗ (∃ W, owes (c : Thread nD τ) (O₀ c) W) ∗ staged m c ∗ stage2 c f2)
      ⊢ iprop(ctx m K ∗ ((∃ W, owes (c : Thread nD τ) (O₀ c) W) ∗ dutyTok ER (barCell (across c)) 0 () ∗ cred (tallyAt (barCell c) () 1)
        ∗ atPos ER (barCell c) 0 ∅ 0 ∗ bigSep (ahead c 0) (toSig c)) ∗ (staged m c ∗ kept c f2)) := by
  iintro ⟨#Hctx, Hl, Hc, ⟨%f, Hi⟩, HO, Hst, H2⟩
  ihave H := (open_linear c f) $$ [Hl Hc Hi]
  · isplitl [Hl]; · iexact Hl
    isplitl [Hc]; · iexact Hc
    iexact Hi
  icases H with ⟨⟨Hb1, Hb2, Hb3⟩, Hsig, Hsend, Hrecv, Hdone, Hown, Hself⟩
  isplitr; · iexact Hctx
  isplitl [HO Hb1 Hb2 Hb3 Hsig]
  · isplitl [HO]; · iexact HO
    isplitl [Hb1]; · iexact Hb1
    isplitl [Hb2]; · iexact Hb2
    isplitl [Hb3]; · iexact Hb3
    iexact Hsig
  isplitl [Hst]; · iexact Hst
  isplitl [Hsend]; · iexact Hsend
  isplitl [Hrecv]; · iexact Hrecv
  isplitl [Hdone]; · iexact Hdone
  isplitl [Hown]; · iexact Hown
  isplitl [Hself]; · iexact Hself
  iexact H2

theorem to_part3 (f2) (n : ℕ) :
    iprop(ctx m K ∗ sigSt c n ∗ (atBar c ∗ (staged m c ∗ kept c f2)))
      ⊢ iprop(ctx m K ∗ sigSt c n ∗ (stage0 c (xblk m c) ∗ stage1 c (dyblk m c) ∗ (atBar c ∗ kept c f2))) := by
  iintro ⟨#Hctx, HS, Hb, ⟨H0, H1⟩, HR⟩
  isplitr; · iexact Hctx
  isplitl [HS]; · iexact HS
  isplitl [H0]; · iexact H0
  isplitl [H1]; · iexact H1
  isplitl [Hb]; · iexact Hb
  iexact HR

theorem to_part4 (f2) :
    iprop(ctx m K ∗ sigSt c 16 ∗ (stage0 c (xblk m c) ∗ stage1 c (dyblk m c) ∗ (atBar c ∗ kept c f2)))
      ⊢ iprop(ctx m K ∗ (∃ f, slotPts c c fullShare f) ∗ ((∃ W, owes (c : Thread nD τ) (owedRecv c 0) W) ∗ bigSep (ahead c 0) (toSend c)
        ∗ (bigSep (ahead c 0) (toRecv c) ∗ keptB m c f2))) := by
  unfold sigSt
  rw [owedCred_end, zero_add]
  iintro ⟨#Hctx, ⟨HO, -⟩, H0, H1, Hb, Hsend, Hrecv, Hdone, Hown, Hself, H2⟩
  isplitr; · iexact Hctx
  isplitl [Hown]; · iexact Hown
  isplitl [HO]; · iexact HO
  isplitl [Hsend]; · iexact Hsend
  isplitl [Hrecv]; · iexact Hrecv
  isplitl [Hdone]; · iexact Hdone
  isplitl [Hself]; · iexact Hself
  isplitl [H2]; · iexact H2
  isplitl [H0 H1]
  · isplitl [H0]; · iexact H0
    iexact H1
  iexact Hb

theorem to_part5 (f2) (n : ℕ) :
    iprop(ctx m K ∗ sendSt m c n ∗ (ownPart m c c ∗ (bigSep (ahead c 0) (toRecv c) ∗ keptB m c f2)))
      ⊢ iprop(ctx m K ∗ sendSt m c n ∗ (bigSep (ahead c 0) (toRecv c) ∗ (ownPart m c c ∗ keptB m c f2))) := by
  iintro ⟨#Hctx, HS, Ho, Hr, HR⟩
  isplitr; · iexact Hctx
  isplitl [HS]; · iexact HS
  isplitl [Hr]; · iexact Hr
  isplitl [Ho]; · iexact Ho
  iexact HR

theorem to_part7 (f2) (n : ℕ) :
    iprop(ctx m K ∗ recvSt m c n ∗ (bigSep (ahead c 0) (sent c) ∗ (ownPart m c c ∗ keptB m c f2)))
      ⊢ iprop(ctx m K ∗ recvSt m c n ∗ (ownPart m c c ∗ stage2 c f2 ∗ bigSep (ahead c 0) (toDone c) ∗ keptC m c)) := by
  rw [show (bigSep (ahead c 0) (sent c) : sProp 𝕄) = _ from bigSep_sep' (ahead c 0) (past c 0) (fun j => cred (tallyAt (sendCell c j) () N)),
    show (bigSep (ahead c 0) (toDone c) : sProp 𝕄) = _ from bigSep_sep' (ahead c 0) (fun j => cred (tallyAt (sendCell c j) () N)) (fresh c 1)]
  iintro ⟨#Hctx, HS, ⟨Hp, Hc⟩, Ho, Hd, Hself, H2, Hst, Hb⟩
  isplitr; · iexact Hctx
  isplitl [HS]; · iexact HS
  isplitl [Ho]; · iexact Ho
  isplitl [H2]; · iexact H2
  isplitl [Hc Hd]
  · isplitl [Hc]; · iexact Hc
    iexact Hd
  isplitl [Hp]; · iexact Hp
  isplitl [Hself]; · iexact Hself
  isplitl [Hst]; · iexact Hst
  iexact Hb

/-- How a device leaves the body. -/
abbrev left : sProp 𝕄 := iprop((∃ W, owes (c : Thread nD τ) 0 W) ∗ atEnd c ∗ staged m c ∗ stage2 c (result m))

theorem to_end :
    iprop(ctx m K ∗ doneSt m c 16 ∗ (ownPart m c c ∗ stage2 c (result m) ∗ bigSep (ahead c 0) (gotten m c) ∗ keptC m c))
      ⊢ |={Set.univ}=> left m c := by
  iintro ⟨#Hctx, HS, Ho, H2, Hg, Hp, Hself, Hst, Hb⟩
  imod (close_all m K c) $$ [HS Ho Hg Hp Hself Hb] with ⟨HO, HE⟩
  · isplitr; · iexact Hctx
    isplitl [HS]; · iexact HS
    isplitl [Ho]; · iexact Ho
    isplitl [Hg]; · iexact Hg
    isplitl [Hp]; · iexact Hp
    isplitl [Hb]; · iexact Hb
    iexact Hself
  imodintro
  isplitl [HO]; · iexact HO
  isplitl [HE]; · iexact HE
  isplitl [Hst]; · iexact Hst
  iexact H2

theorem ret_end {α : Type} {v : α} {Q : α → sProp (MT nD τ sig Unit (Elt F) ℕ UU ℕ)} {P : sProp (MT nD τ sig Unit (Elt F) ℕ UU ℕ)} (h : P ⊢ |={Set.univ}=> Q v) : P ⊢ WP c (.ret v) Q := by
  unfold WP; rw [wp_ret]; exact h

theorem bind_run {α β : Type} {p : Prog (TpuEff nD τ sig (Elt F) Λ₀ .tc) α} {k : α → Prog (TpuEff nD τ sig (Elt F) Λ₀ .tc) β}
    {Q : β → sProp (MT nD τ sig Unit (Elt F) ℕ UU ℕ)} {P : sProp (MT nD τ sig Unit (Elt F) ℕ UU ℕ)} (h : P ⊢ WP c p fun a => WP c (k a) Q) : P ⊢ WP c (p >>= k) Q := by
  unfold WP at *; rw [wp_bind]; exact h

set_option maxHeartbeats 1000000 in
theorem body_run (f2 : (cc0_stg2_0 : Ref sig .tc).ty.Contents (Elt F)) :
    iprop(ctx m K ∗ linear c ∗ credits c ∗ (∃ f, inboxPts c f) ∗ (∃ W, owes (c : Thread nD τ) (O₀ c) W) ∗ staged m c ∗ stage2 c f2)
      ⊢ WP c (cc0__body_skel (Memref.whole cc0_stg0_0) (Memref.isWhole_whole _) (Memref.whole cc0_stg1_0) (Memref.isWhole_whole _)
        (Memref.whole cc0_stg2_0) (Memref.isWhole_whole _) (Memref.whole cc0_scratch0) (Memref.isWhole_whole _) cc0_scratch1 cc0_scratch2 cc0_scratch3)
        fun _ => left m c := by
  unfold cc0__body_skel
  simp only [k0_part1_eq_skeleton, k0_part2_eq_skeleton, k0_part3_eq_skeleton, k0_part4_eq_skeleton, k0_part5_eq_skeleton, k0_part6_eq_skeleton,
    k0_part7_eq_skeleton, k0_part8_eq_skeleton]
  refine BIBase.Entails.trans (to_part1 m K c f2) (bind_run c (part1_run m K c _ _ _ _ _ _ _ fun v => ?_))
  refine bind_run c (part2_run m K c _ _ _ _ _ _ _ _ fun v => ?_)
  refine BIBase.Entails.trans (to_part3 m K c f2 _) (bind_run c (part3_run m K c _ _ _ _ _ _ _ _ ?_))
  refine BIBase.Entails.trans (to_part4 m K c f2) (bind_run c (part4_run m K c _ _ _ _ _ _ _ ?_))
  refine BIBase.Entails.trans (to_part5 m K c f2 _) (bind_run c (part5_run m K c _ _ _ _ _ _ _ _ ?_))
  refine bind_run c (part6_run m K c _ _ _ _ _ _ _ ?_)
  refine BIBase.Entails.trans (to_part7 m K c f2 _) (bind_run c (part7_run m K c _ _ _ _ _ _ _ fun v => ?_))
  refine bind_run c (part8_run m K c _ _ _ _ _ _ _ _ fun v => ?_)
  simp only [semSignalWord, semWaitWord, Prog.lift, Prog.bind_op, Prog.bind_ret, Prog.pure_eq_ret]
  refine done_step m K c 15 ((by decide +kernel : ∀ d, k0_cond64 d = 1#1 ↔ (15 : Dev nD) ≠ d) c) (fun _ Kp => wait_clause c c (send_sem 15 rfl) (slot_ref c (place3 (k0_off65_eq c))) Kp) ?_
  exact ret_end c (to_end m K c)

end Body

end Cert.KernelIdeal.Talk

end
-- ==== Proof.Talk.KernelIdealCredits.lean ====
/-
# What the launch credits each device, and the conditions of the run
-/
module

public import proofs.«01_k».proof.Proof.Talk.KernelIdealDeal

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

/-! ## What every device is owed -/

theorem dev_of_cell {a b : Dev nD} {s t : SemLoc sig} (h : (((a : Thread nD τ), s) : GSem nD τ sig) = ((b : Thread nD τ), t)) : a = b :=
  congrArg (fun g : GSem nD τ sig => g.1.1) h
theorem kind_of_cell {a b : Dev nD} {k l : Option Kx} (h : kcell (a, k) = kcell (b, l)) : k = l :=
  csem_injective (congrArg Prod.snd h)

theorem bar_none (d : Dev nD) (c : Dev nD) (k : Kx) : tallyAt (barCell (across d)) () 1 (kcell (c, some k)) () = 0 :=
  Nat.eq_zero_of_not_pos fun h => by cases kind_of_cell (k := some k) (l := none) (tally_pos h)
theorem cred_only (d c : Dev nD) (k : Option Kx) (h : ∀ i, k = some (0, i) → d ≠ i) : owedCred d 0 (kcell (c, k)) () = 0 :=
  Nat.eq_zero_of_not_pos fun hp => by
    obtain ⟨j, hj⟩ := owedCred_pos hp
    exact h d (kind_of_cell (l := some (0, d)) hj) rfl
theorem recv_only (d c : Dev nD) (k : Option Kx) (h : ∀ i, k = some (2, i) → d ≠ i) : owedRecv d 0 (kcell (c, k)) () = 0 :=
  Nat.eq_zero_of_not_pos fun hp => by
    obtain ⟨j, hj⟩ := owedRecv_pos hp
    exact h d (kind_of_cell (l := some (2, d)) hj) rfl

theorem sum_at {S : Finset (Dev nD)} (T : Dev nD → CellTallies nD τ sig Unit) (g : GSem nD τ sig) :
    (∑ j ∈ S, T j) g () = ∑ j ∈ S, T j g () := by rw [Finset.sum_apply, Finsupp.finset_sum_apply]

theorem cred_full (c i : Dev nD) (h : i ≠ c) : owedCred i 0 (credCell c i) () = 1 := by
  unfold owedCred
  rw [sum_at, Finset.sum_eq_single c]
  · rw [tallyAt_apply, if_pos ⟨rfl, rfl⟩]
  · intro j _ hj
    exact Nat.eq_zero_of_not_pos fun hp => hj (dev_of_cell (tally_pos hp)).symm
  · exact fun hn => absurd (mem_ahead.mpr ⟨Nat.zero_le _, fun e => h e.symm⟩) hn
theorem recv_full (c i : Dev nD) (h : i ≠ c) : owedRecv i 0 (recvCell c i) () = N := by
  unfold owedRecv
  rw [sum_at, Finset.sum_eq_single c]
  · rw [tallyAt_apply, if_pos ⟨rfl, rfl⟩]
  · intro j _ hj
    exact Nat.eq_zero_of_not_pos fun hp => hj (dev_of_cell (tally_pos hp)).symm
  · exact fun hn => absurd (mem_ahead.mpr ⟨Nat.zero_le _, fun e => h e.symm⟩) hn

theorem owed_split (d : Dev nD) (g : GSem nD τ sig) : O₀ d g () = owedCred d 0 g () + owedRecv d 0 g () + tallyAt (barCell (across d)) () 1 g () := by
  unfold O₀; rw [Pi.add_apply, Finsupp.add_apply, Pi.add_apply, Finsupp.add_apply]

theorem owed_bar (d c : Dev nD) : O₀ d (kcell (c, none)) () = if d = across c then 1 else 0 := by
  rw [owed_split, cred_only d c none (fun i h => by cases h), recv_only d c none (fun i h => by cases h), Nat.zero_add]
  by_cases h : d = across c
  · subst h; rw [if_pos rfl, across_across, tallyAt_apply, if_pos ⟨rfl, rfl⟩]
  · rw [if_neg h]
    exact Nat.eq_zero_of_not_pos fun hp => h (by have e : c = across d := dev_of_cell (tally_pos hp); rw [e, across_across])
theorem owed_cred (d c i : Dev nD) (hi : i ≠ c) : O₀ d (kcell (c, some (0, i))) () = if d = i then 1 else 0 := by
  rw [owed_split, bar_none, recv_only d c _ (fun j h => by cases h), Nat.add_zero]
  by_cases h : d = i
  · subst h; rw [if_pos rfl]; exact cred_full c d hi
  · rw [if_neg h, cred_only d c _ (fun j hj => by cases hj; exact h)]
theorem owed_recv (d c i : Dev nD) (hi : i ≠ c) : O₀ d (kcell (c, some (2, i))) () = if d = i then N else 0 := by
  rw [owed_split, bar_none, cred_only d c _ (fun j h => by cases h), Nat.add_zero, Nat.zero_add]
  by_cases h : d = i
  · subst h; rw [if_pos rfl]; exact recv_full c d hi
  · rw [if_neg h, recv_only d c _ (fun j hj => by cases hj; exact h)]

theorem launch_at (c e : Dev nD) (k : Option Kx) (n : ℕ) (h : ∀ d, O₀ d (kcell (c, k)) () = if d = e then n else 0) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ e fun _ => n,
    if_pos (Finset.mem_univ _)]

/-- The launch's credit on one cell. -/
abbrev given (c : Dev nD) (k : Option Kx) : sProp 𝕄 := cred (tallyOn (kcell (c, k)) (launchCredit (Pipeline.owing O₀) 0 (kcell (c, k))))

theorem creds (c : Dev nD) : (Pipeline.launchCred O₀ c : sProp 𝕄) ⊢ credits c := by
  have h : (Pipeline.launchCred O₀ c : sProp 𝕄) ⊢ bigSep Finset.univ (given c) := by
    unfold Pipeline.launchCred
    have e : (bigSep (Finset.univ.map ⟨csem, csem_injective⟩) fun sm : SemLoc sig => (cred (tallyOn ((c : Thread nD τ), sm) (launchCredit (Pipeline.owing O₀) 0 ((c : Thread nD τ), sm))) : sProp 𝕄))
        = bigSep Finset.univ (given c) := by rw [bigSep_map]; rfl
    exact e ▸ bigSep_subset (Finset.subset_univ _)
  refine h.trans ?_
  unfold credits
  rw [over_option, over_kinds, sep_peers (fun j => given c (some (0, j))) c, sep_peers (fun j => given c (some (2, j))) c,
    show (given c none : sProp 𝕄) = _ from congrArg cred (launch_at c (across c) none 1 fun d => owed_bar d c),
    bigSep_congr fun j hj => show (given c (some (0, j)) : sProp 𝕄) = cred (tallyAt (credCell c j) () 1) from
      congrArg cred (launch_at c j (some (0, j)) 1 fun d => owed_cred d c j (mem_ahead.mp hj).2),
    bigSep_congr fun j hj => show (given c (some (2, j)) : sProp 𝕄) = cred (tallyAt (recvCell c j) () N) from
      congrArg cred (launch_at c j (some (2, j)) N fun d => owed_recv d c j (mem_ahead.mp hj).2)]
  iintro ⟨Hb, ⟨-, Hc⟩, -, ⟨-, Hr⟩⟩
  isplitl [Hb]; · iexact Hb
  isplitl [Hc]; · iexact Hc
  iexact Hr

/-! ## The conditions of the run -/

/-- The third argument, which the kernel leaves alone. -/
def third (c : Dev nD) : sProp 𝕄 := ((c : Thread nD τ).loc main_arg2) ↦{fullShare} m ((c : Thread nD τ).loc main_arg2)

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop(start m c ∗ third m c) := by
  rw [show (Pipeline.unscopedRestP Pipeline.Prefetch.none cfg0.spec c (fun b => m ((c : Thread nD τ).loc b)) : sProp 𝕄) = third m c from
    unscopedRest0_eq c (fun b => m ((c : Thread nD τ).loc b))]
  unfold start ready ctx levs
  iintro ⟨Hu, Hlev, Hcr, -, ⟨%K, HI, HR, HL⟩⟩
  imodintro
  isplitr [Hu]
  · isplitr [Hcr]
    · iexists K
      isplitr [HL]
      · isplitl [HI]; · iexact HI
        isplitl [HR]; · iexact HR
        iexact Hlev
      iexact HL
    iapply (creds c); iexact Hcr
  iexact Hu

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show (Pipeline.scopedRest cfg0.spec c : sProp 𝕄) = _ from scopedRest0_eq c]
  unfold Φ₀ inboxPts
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = atEnd c from rfl, show (Pipeline.scopedRest cfg0.spec c : sProp 𝕄) = _ from scopedRest0_eq c, ownSems0_eq, unscopedSems0_eq]
  unfold atEnd inboxPts
  iintro ⟨Hr, Hz, Hb⟩
  isplitl [Hb]; · iexact Hb
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

end Cert.KernelIdeal.Talk

end
-- ==== Proof.Talk.KernelIdealRun.lean ====
/-
# The run of the whole program
-/
module

public import proofs.«01_k».proof.Proof.Talk.KernelIdealBody
public import proofs.«01_k».proof.Proof.Talk.KernelIdealCredits
public import Idealize.ShloMosaic.Lib.Pipeline.Value
public import Idealize.ShloMosaic.Lib.Pipeline.CollectiveSegs

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def bodyPost (c : Dev nD) : sProp 𝕄 :=
  iprop(atEnd c ∗ (dats m 0 c).owesAt () t0_0.succ ∗ stg c cc0_stg0_0 (xblk m c) ∗ stg c cc0_stg1_0 (dyblk m c) ∗ stg c cc0_stg2_0 (result m))

theorem body_enter (c : Dev nD) : bodyPre m c ⊢ iprop(∃ K f2, ctx m K ∗ linear c ∗ credits c ∗ (∃ f, inboxPts c f)
    ∗ (∃ W, owes (c : Thread nD τ) (O₀ c) W) ∗ staged m c ∗ stage2 c f2) := by
  unfold bodyPre Φ₀ start Dat.owesAt Pipeline.owesWithin
  rw [show (dats m 0 c).owed t0_0.castSucc = O₀ c from rfl]
  iintro ⟨⟨⟨⟨%K, #Hctx, Hl⟩, Hc⟩, Hi⟩, ⟨%W, %hW, HO⟩, ⟨%d0, %g0, %hg0, H0⟩, ⟨%d1, %g1, %hg1, H1⟩, ⟨%d2, %g2, %hg2, H2⟩⟩
  have h0 : g0 = xblk m c := by rw [hg0]; unfold Dat.before; rw [if_pos (fetch0_0 t0_0)]; rfl
  have h1 : g1 = dyblk m c := by rw [hg1]; unfold Dat.before; rw [if_pos (fetch0_1 t0_0)]; rfl
  subst h0 h1
  iexists K; iexists g2
  isplitr; · iexact Hctx
  isplitl [Hl]; · iexact Hl
  isplitl [Hc]; · iexact Hc
  isplitl [Hi]; · iexact Hi
  isplitl [HO]; · iexists W; iexact HO
  isplitl [H0 H1]
  · isplitl [H0]; · iexact H0
    iexact H1
  iexact H2

theorem body_leave (c : Dev nD) : left m c ⊢ bodyPost m c := by
  unfold bodyPost Dat.owesAt Pipeline.owesWithin
  rw [show (dats m 0 c).owed t0_0.succ = 0 from rfl]
  iintro ⟨⟨%W, HO⟩, HE, ⟨H0, H1⟩, H2⟩
  isplitl [HE]; · iexact HE
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  iexists _; isplitr; · (ipureintro; rfl)
  iexact H2

theorem body_sound (c : Dev nD) : bodyPre m c ⊢ WP c (cc0__body (F := F) (Memref.whole cc0_stg0_0) (Memref.isWhole_whole _) (Memref.whole cc0_stg1_0) (Memref.isWhole_whole _)
        (Memref.whole cc0_stg2_0) (Memref.isWhole_whole _) (Memref.whole cc0_scratch0) (Memref.isWhole_whole _) cc0_scratch1 cc0_scratch2 cc0_scratch3)
        fun _ => bodyPost m c := by
  rw [cc0__body_eq_skeleton]
  refine BIBase.Entails.trans (body_enter m c) ?_
  iintro ⟨%K, %f2, H⟩
  iapply (BIBase.Entails.trans (body_run m K c f2) (wp_mono _ _ _ fun _ => body_leave m c))
  iexact H

set_option maxRecDepth 4000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  exact body_sound m c

/-- The third argument is read off at the end. -/
theorem third_read (c : Dev nD) (s' : Phys nD τ sig (Elt F)) :
    iprop(third m c ∗ SI s') ⊢ iprop(⌜s'.mem.mem ((c : Thread nD τ).loc main_arg2) = m ((c : Thread nD τ).loc main_arg2)⌝ ∗ (SI s' : sProp 𝕄)) := by
  unfold third
  iintro ⟨H, HSI⟩
  icombine HSI H gives %h
  isplitr
  · ipureintro; exact Buf.eq_of_forall_mem_univ h
  · iexact HSI

/-! ### The contents at the end -/

/-- The place of element `i` of a window's block is its own. -/
theorem place0 (i : S256x2048.Idx) : (win0_0.blk (0 : Fin 1)).view.emb i = i :=
  funext fun a => Fin.ext (by
    have e : win0_0.index (0 : Fin 1) a * win0_0.size a = 0 := by revert a; decide +kernel
    show win0_0.index (0 : Fin 1) a * win0_0.size a + 1 * (i a).val = (i a).val
    omega)
theorem place1' (i : S256x2048.Idx) : (win0_1.blk (0 : Fin 1)).view.emb i = i :=
  funext fun a => Fin.ext (by
    have e : win0_1.index (0 : Fin 1) a * win0_1.size a = 0 := by revert a; decide +kernel
    show win0_1.index (0 : Fin 1) a * win0_1.size a + 1 * (i a).val = (i a).val
    omega)
theorem place2 (i : S2x2048.Idx) : (win0_2.blk (0 : Fin 1)).view.emb i = i :=
  funext fun a => Fin.ext (by
    have e : win0_2.index (0 : Fin 1) a * win0_2.size a = 0 := by revert a; decide +kernel
    show win0_2.index (0 : Fin 1) a * win0_2.size a + 1 * (i a).val = (i a).val
    omega)

theorem xblk_eq (c : Dev nD) : xblk m c = m ((c : Thread nD τ).loc main_arg0) :=
  funext fun i => congrArg (m ((c : Thread nD τ).loc main_arg0)) (place0 i)
theorem dyblk_eq (c : Dev nD) : dyblk m c = m ((c : Thread nD τ).loc main_arg1) :=
  funext fun i => congrArg (m ((c : Thread nD τ).loc main_arg1)) (place1' i)

def finalA (c : Dev nD) (w : Fin cfg0.W) : Buf (Elt F) ((cfg0.win w).arr.view.loc (c : Thread nD τ)) := (dats m 0 c).arrAt w cfg0.N

theorem finalA_out (c : Dev nD) : finalA m c 2 = result m :=
  (dats m 0 c).arrAt_eq_of_cover 2 (result m)
    (fun t _ => by
      obtain rfl := fin_N0 t
      have ha : (dats m 0 c).after 2 t0_0 = result m := by dsimp only [dats]
      unfold Pipeline.Dat.flushed
      rw [ha]
      exact funext fun i => (congrArg (result m) (place2 i)).symm)
    (fun i => ⟨t0_0, flush0_2 _, Finset.mem_map.mpr ⟨i, Finset.mem_univ _, place2 i⟩⟩)

/-! ### The run -/

/-- How the memory ends: the result on every device, the arguments as they were, every semaphore at zero. -/
def Ends (r : PUnit × MemSt nD τ sig (Elt F)) : Prop :=
  (∀ c : Dev nD, r.2.mem ((c : Thread nD τ).loc main_v1) = result m
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2))
  ∧ r.2.sem = fun _ => 0

set_option maxRecDepth 8000 in
/-- Every run of the program from a memory with its semaphores at zero ends so. -/
theorem run_main (ρ : Dev nD → PrngReg) : θ_run defs (onTc (τ := τ) (main (F := F))) ⟨m, fun _ => 0, ρ⟩ (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := ready m) (u₀ := u₀)
    (hu₀ := by
      unfold u₀
      iintro Hu
      ihave H := (ownU_pair _ _) $$ Hu
      icases H with ⟨HP, HX⟩
      imod (fund_talk m) $$ HX with HG
      imodintro
      isplitl [HP]; · iexact HP
      iexact HG)
    (hglob := glob m)
    (hA := fun _ _ => rfl) (hpf := fun _ k => k.elim0)
    (X := start m) (Y := fun c => unscopedSems0 c) (Z := third m)
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg2) = m ((c : Thread nD τ).loc main_arg2))
    (hY := fun c s' => by
      iintro ⟨Hu, Hz, HSI⟩
      ihave H := (third_read m c s') $$ [Hz HSI]
      · isplitl [Hz]; · iexact Hz
        iexact HSI
      icases H with ⟨%hz, HSI⟩
      imod (Pipeline.unscopedSems0_read (X := unscopedSems0 c) (c := c) fupd_intro s') $$ [Hu HSI] with ⟨%hu, HSI⟩
      · isplitl [Hu]; · iexact Hu
        iexact HSI
      imodintro
      isplitr
      · ipureintro; exact ⟨hu, hz⟩
      · iexact HSI)
    (hQ := fun _ h hs => ⟨fun c => ⟨((h c).1 2).trans (finalA_out m c), ((h c).1 0).trans ((dats (F := F) m 0 c).arrAt_in (0 : Fin 3) rfl _),
      ((h c).1 1).trans ((dats (F := F) m 0 c).arrAt_in (1 : Fin 3) rfl _), (h c).2.2.2⟩, sem_eq_zero hs fun c => (h c).2.2.1⟩)

end Cert.KernelIdeal.Talk

end
-- ==== Proof.Value.lean ====
/-
# The value of the kernel and of the reference

Over the extended reals both programs compute the same two sums over the 4096 rows.
-/
module

public import proofs.«01_k».proof.Proof.Gen.KernelIdeal.Skeleton
public import proofs.«01_k».proof.Proof.Gen.ReferenceIdeal.Run
public import Idealize.ShloMosaic.Lib.Pointwise
public import Idealize.ShloMosaic.Lib.IdealHost
public import Idealize.ShloMosaic.Lib.Layout

@[expose] public section

set_option maxRecDepth 16384

noncomputable section

namespace Cert.Value

open Idealize.ShloMosaic

/-- The number of columns as both programs spell it. -/
def width : EReal := Ideal.ofBits .f32 0x45000000#32

/-- The small number both programs add to the variance. -/
def eps : EReal := Ideal.ofBits .f32 0x3727C5AC#32

/-- The mean of one row. -/
def mean (f : Fin 2048 → EReal) : EReal := Ideal.div (∑ k, f k) width

/-- The variance of one row. -/
def var (f : Fin 2048 → EReal) : EReal := Ideal.div (∑ k, (f k - mean f) * (f k - mean f)) width

/-- One row normalised. -/
def hat (f : Fin 2048 → EReal) (l : Fin 2048) : EReal := (f l - mean f) * Ideal.rsqrt (var f + eps)

section Kernel
open Cert.KernelIdeal Cert.KernelIdeal.Gen

/-- The first row of a device's partial sums. -/
theorem pay1_zero (x dy : FVec Ideal S256x2048 .f32) (l : Fin 2048) :
    k0_pay1 x dy (ix3 (0 : Fin 1) (0 : Fin 2) l) = ∑ r : Fin 256, dy (ix2 r l) * hat (fun k => x (ix2 r k)) l := by
  pointwise [k0_pay1]
  rfl

/-- The second row of a device's partial sums. -/
theorem pay1_one (x dy : FVec Ideal S256x2048 .f32) (l : Fin 2048) :
    k0_pay1 x dy (ix3 (0 : Fin 1) (1 : Fin 2) l) = ∑ r : Fin 256, dy (ix2 r l) := by
  pointwise [k0_pay1]

/-- What is stored in the inbox is what was computed. -/
theorem pay2_eq (v : FVec Ideal S1x2x2048 .f32) : k0_pay2 v = v := by
  funext j
  pointwise [k0_pay2]

/-- The result sums the inbox over its sixteen slots. -/
theorem pay3_apply (v : FVec Ideal S16x2x2048 .f32) (b : Fin 2) (l : Fin 2048) :
    k0_pay3 v (ix2 b l) = ∑ j : Fin 16, v (ix3 j b l) := by
  pointwise [k0_pay3]

end Kernel

/-! ### The scalar facts -/

/-- The number of columns is the real number 2048. -/
theorem width_eq : width = ((2048 : ℝ) : EReal) := by
  unfold width
  simp [Ideal.ofBits, Ideal.ieee]
  rw [← EReal.coe_mul]
  norm_num

/-- The small number is positive. -/
theorem eps_pos : 0 < eps := by
  unfold eps
  simp [Ideal.ofBits, Ideal.ieee]
  rw [← EReal.coe_mul]
  exact EReal.coe_pos.mpr (by norm_num)

/-- The number of columns is positive. -/
theorem width_pos : 0 < width := by
  rw [width_eq]
  exact EReal.coe_pos.mpr (by norm_num)

/-- A square is never negative, at the infinities either. -/
theorem sq_nonneg (a : EReal) : 0 ≤ a * a := by
  induction a with
  | bot => simp
  | top => simp
  | coe r => exact_mod_cast mul_self_nonneg r

/-- A variance is never negative. -/
theorem var_nonneg (f : Fin 2048 → EReal) : 0 ≤ var f := by
  unfold var
  rw [width_eq, Ideal.div_coe (by norm_num)]
  exact mul_nonneg (Finset.sum_nonneg fun k _ => sq_nonneg _) (by norm_num)

/-- One divided by the root of a positive number is its reciprocal root. -/
theorem one_div_sqrt {a : EReal} (h : 0 < a) : Ideal.div 1 (Ideal.sqrt a) = Ideal.rsqrt a := by
  induction a with
  | bot => simp at h
  | top => simp [Ideal.div]
  | coe r =>
    have hr : 0 < r := by exact_mod_cast h
    rw [Ideal.sqrt_coe, Ideal.rsqrt_coe, if_neg hr.not_gt, if_neg hr.not_gt, if_neg hr.ne',
      Ideal.div_coe (Real.sqrt_pos.mpr hr).ne', one_mul, one_div]

/-- The variance plus the small number is positive. -/
theorem var_eps_pos (f : Fin 2048 → EReal) : 0 < var f + eps :=
  lt_of_lt_of_le eps_pos (le_add_of_nonneg_left (var_nonneg f))

section Reference
open Cert.ReferenceIdeal Cert.ReferenceIdeal.Gen

/-- The reference's column of means. -/
def refMean (x : FVec Ideal S4096x2048 .f32) : FVec Ideal S4096x1 .f32 :=
  Host.divf (broadcastInDim S4096x1 ![0] bcast_S4096_S4096x1_0 (Host.reduceAdd x (constant S_ .f32 0x00000000#32) reducesTo_S4096x2048_S4096_d1 h_S_))
    (broadcastInDim S4096x1 ![] bcast_S_S4096x1 (constant S_ .f32 0x45000000#32))

/-- The reference's array less its means. -/
def refCen (x : FVec Ideal S4096x2048 .f32) : FVec Ideal S4096x2048 .f32 :=
  subf x (broadcastInDim S4096x2048 ![0, 1] bcast_S4096x1_S4096x2048_0_1 (refMean x))

/-- The number the reference divides the sum of squares by. -/
def refCount : FVec Ideal S_ .f32 := subf (constant S_ .f32 0x45000000#32) (sitofp .f32 (constantI S_ 32 0#32))

/-- The reference's column of variances. -/
def refVar (x : FVec Ideal S4096x2048 .f32) : FVec Ideal S4096x1 .f32 :=
  select (broadcastInDim S4096x1 ![] bcast_S_S4096x1 (cmpf .ogt refCount (constant S_ .f32 0x00000000#32)))
    (Host.divf (broadcastInDim S4096x1 ![0] bcast_S4096_S4096x1_0 (Host.reduceAdd (mulf (refCen x) (refCen x)) (constant S_ .f32 0x00000000#32) reducesTo_S4096x2048_S4096_d1 h_S_))
      (broadcastInDim S4096x1 ![] bcast_S_S4096x1 refCount))
    (broadcastInDim S4096x1 ![] bcast_S_S4096x1 (id (constant S_ .f32 0x7FC00000#32)))

/-- The reference's normalised array. -/
def refHat (x : FVec Ideal S4096x2048 .f32) : FVec Ideal S4096x2048 .f32 :=
  mulf (refCen x) (broadcastInDim S4096x2048 ![0, 1] bcast_S4096x1_S4096x2048_0_1
    (Host.divf (broadcastInDim S4096x1 ![] bcast_S_S4096x1 (constant S_ .f32 0x3F800000#32))
      (Host.sqrt (addf (refVar x) (broadcastInDim S4096x1 ![] bcast_S_S4096x1 (constant S_ .f32 0x3727C5AC#32))))))

/-- The reference's result. -/
def refOut (x dy : FVec Ideal S4096x2048 .f32) : FVec Ideal S2x2048 .f32 :=
  concatenate S2x2048 0
    [⟨S1x2048, broadcastInDim S1x2048 ![1] bcast_S2048_S1x2048_1 (Host.reduceAdd (mulf dy (refHat x)) (constant S_ .f32 0x00000000#32) reducesTo_S4096x2048_S2048_d0 h_S_)⟩,
     ⟨S1x2048, broadcastInDim S1x2048 ![1] bcast_S2048_S1x2048_1 (Host.reduceAdd dy (constant S_ .f32 0x00000000#32) reducesTo_S4096x2048_S2048_d0 h_S_)⟩]
    concatenates_S1x2048_S1x2048_S2x2048_d0

/-- The reference's mean of a row. -/
theorem refMean_apply (x : FVec Ideal S4096x2048 .f32) (R : Fin 4096) :
    refMean x (ix2 R (0 : Fin 1)) = mean fun k => x (ix2 R k) := by
  pointwise [refMean]
  rfl

/-- The reference's array less its means, entry by entry. -/
theorem refCen_apply (x : FVec Ideal S4096x2048 .f32) (R : Fin 4096) (l : Fin 2048) :
    refCen x (ix2 R l) = x (ix2 R l) - mean fun k => x (ix2 R k) := by
  rw [← refMean_apply]
  pointwise [refCen]

/-- The reference divides by the number of columns. -/
theorem refCount_apply (j : S_.Idx) : refCount j = width := by
  pointwise [refCount]
  change width - (((0#32).toInt : ℝ) : EReal) = width
  simp

/-- The reference's variance of a row: the branch it selects is the quotient, for the number of columns is positive. -/
theorem refVar_apply (x : FVec Ideal S4096x2048 .f32) (R : Fin 4096) :
    refVar x (ix2 R (0 : Fin 1)) = var fun k => x (ix2 R k) := by
  pointwise [refVar, refCen_apply, refCount_apply]
  rw [if_pos width_pos]
  rfl

/-- The reference's normalised array, entry by entry. -/
theorem refHat_apply (x : FVec Ideal S4096x2048 .f32) (R : Fin 4096) (l : Fin 2048) :
    refHat x (ix2 R l) = hat (fun k => x (ix2 R k)) l := by
  unfold hat
  rw [← one_div_sqrt (var_eps_pos _), ← refCen_apply, ← refVar_apply]
  pointwise [refHat]
  rfl

/-- The first row of the reference's result. -/
theorem refOut_zero (x dy : FVec Ideal S4096x2048 .f32) (l : Fin 2048) :
    refOut x dy (ix2 (0 : Fin 2) l) = ∑ R : Fin 4096, dy (ix2 R l) * hat (fun k => x (ix2 R k)) l := by
  pointwise [refOut, refHat_apply]

/-- The second row of the reference's result. -/
theorem refOut_one (x dy : FVec Ideal S4096x2048 .f32) (l : Fin 2048) :
    refOut x dy (ix2 (1 : Fin 2) l) = ∑ R : Fin 4096, dy (ix2 R l) := by
  pointwise [refOut]

end Reference

/-- A sum over the 4096 rows is the sum, block after block, over the sixteen blocks of 256. -/
theorem sum_rows (g : Fin 4096 → EReal) :
    ∑ R, g R = ∑ j : Fin 16, ∑ r : Fin 256, g ⟨j.val * 256 + r.val, by omega⟩ := by
  rw [← Fintype.sum_prod_type', ← (finProdFinEquiv (m := 16) (n := 256)).sum_comp]
  refine Finset.sum_congr rfl fun p _ => congrArg g (Fin.ext ?_)
  simp [finProdFinEquiv]
  omega

section Both
open Cert.KernelIdeal Cert.KernelIdeal.Gen

/-- Sixteen devices holding their blocks of the reference's arrays add up to the reference's result. -/
theorem total_eq (x dy : Fin 16 → FVec Ideal S256x2048 .f32) (X DY : (⟨2, ![4096, 2048]⟩ : Shape).Idx → EReal)
    (hx : ∀ c, x c = Layout.block ⟨2, ![256, 2048]⟩ ⟨2, ![4096, 2048]⟩ 0 16 c X)
    (hdy : ∀ c, dy c = Layout.block ⟨2, ![256, 2048]⟩ ⟨2, ![4096, 2048]⟩ 0 16 c DY)
    (v : FVec Ideal S16x2x2048 .f32) (hv : ∀ j b l, v (ix3 j b l) = k0_pay2 (k0_pay1 (x j) (dy j)) (ix3 (0 : Fin 1) b l)) :
    k0_pay3 v = refOut X DY := by
  have row : ∀ (Z : (⟨2, ![4096, 2048]⟩ : Shape).Idx → EReal) (j : Fin 16) (r : Fin 256) (l : Fin 2048),
      Layout.block ⟨2, ![256, 2048]⟩ ⟨2, ![4096, 2048]⟩ 0 16 j Z (by decide) (ix2 r l)
        = Z (ix2 (⟨j.val * 256 + r.val, by omega⟩ : Fin 4096) l) := by
    intro Z j r l
    rw [Layout.block_apply]
    congr 1
    funext a
    apply Fin.ext
    match a with
    | 0 => rfl
    | 1 => rfl
  funext i
  obtain ⟨b, l, rfl⟩ : ∃ (b : Fin 2) (l : Fin 2048), i = ix2 b l := ⟨i 0, i 1, eq_ix2 i⟩
  rw [pay3_apply]
  simp only [hv, pay2_eq]
  match b with
  | 0 =>
    rw [refOut_zero, sum_rows]
    refine Finset.sum_congr rfl fun j _ => ?_
    rw [pay1_zero]
    refine Finset.sum_congr rfl fun r _ => ?_
    rw [hx, hdy]
    simp only [row]
  | 1 =>
    rw [refOut_one, sum_rows]
    refine Finset.sum_congr rfl fun j _ => ?_
    rw [pay1_one]
    refine Finset.sum_congr rfl fun r _ => ?_
    rw [hdy, row]

end Both

end Cert.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Talk.KernelIdealRun
public import proofs.«01_k».proof.Proof.Talk.KernelRun
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel's frame: its run leaves the arguments as they were and every semaphore at zero. -/
theorem frame_kernel : Cert.quiescent_Kernel := fun m g _ =>
  (θ_run Cert.Kernel.defs _ _).mono (fun _ h => ⟨fun c => (h.1 c).2, h.2⟩) (Cert.Kernel.Talk.run_main m g)

/-- The same of the idealized kernel. -/
theorem frame_ideal : Cert.quiescent_KernelIdeal := fun m g _ =>
  (θ_run Cert.KernelIdeal.defs _ _).mono (fun _ h => ⟨fun c => (h.1 c).2, h.2⟩) (Cert.KernelIdeal.Talk.run_main m g)

/-- The reference's frame: it writes no argument and declares no semaphore. -/
theorem frame_reference : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

/-- Every device's result is the reference's result, over the extended reals. -/
theorem value : Cert.algebraic_KernelIdeal_ReferenceIdeal := by
  intro m g m' g' _ hm
  have e : Cert.KernelIdeal.Talk.result m
      = Cert.Value.refOut (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)) :=
    Cert.Value.total_eq (Cert.KernelIdeal.Talk.xblk m) (Cert.KernelIdeal.Talk.dyblk m) _ _
      (fun c => (Cert.KernelIdeal.Talk.xblk_eq m c).trans (hm c).1)
      (fun c => (Cert.KernelIdeal.Talk.dyblk_eq m c).trans (hm c).2.1)
      (Cert.KernelIdeal.Talk.inbox m) (fun j b l => congrArg (Cert.KernelIdeal.Talk.partials m j)
        (funext fun a => match a with | 0 => rfl | 1 => rfl | 2 => rfl))
  refine ⟨_, (θ_run Cert.KernelIdeal.defs _ _).mono (fun _ h c => ⟨((h.1 c).1).trans e, (h.1 c).2⟩) (Cert.KernelIdeal.Talk.run_main m g), ?_⟩
  exact (θ_run Cert.ReferenceIdeal.defs _ _).mono (fun _ h => h 0) (Cert.ReferenceIdeal.Value.run m' g')

theorem claim : Cert.Claim := ⟨Cert.Kernel.Gen.facts, Cert.KernelIdeal.Gen.facts, Cert.ReferenceIdeal.Gen.facts,
  frame_kernel, frame_ideal, frame_reference, trivial, value⟩

end Cert.Proof

end
